-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512 : Shape := ⟨1, ![512]⟩
abbrev S2x128x192 : Shape := ⟨3, ![2, 128, 192]⟩
abbrev S20480x128 : Shape := ⟨2, ![20480, 128]⟩
abbrev S128x128 : Shape := ⟨2, ![128, 128]⟩
abbrev S24x20480 : Shape := ⟨2, ![24, 20480]⟩
abbrev S20480 : Shape := ⟨1, ![20480]⟩
abbrev S128x2x24x8 : Shape := ⟨4, ![128, 2, 24, 8]⟩
abbrev S8x24x2x128 : Shape := ⟨4, ![8, 24, 2, 128]⟩
abbrev S192x256 : Shape := ⟨2, ![192, 256]⟩
abbrev S160x128 : Shape := ⟨2, ![160, 128]⟩
abbrev S96x20480 : Shape := ⟨2, ![96, 20480]⟩
abbrev S1024x128 : Shape := ⟨2, ![1024, 128]⟩
abbrev S24x1024 : Shape := ⟨2, ![24, 1024]⟩
abbrev S8x128 : Shape := ⟨2, ![8, 128]⟩
abbrev S96x1024 : Shape := ⟨2, ![96, 1024]⟩
abbrev S192x1024 : Shape := ⟨2, ![192, 1024]⟩
abbrev S_ : Shape := ⟨0, ![]⟩
abbrev S256x128 : Shape := ⟨2, ![256, 128]⟩
abbrev S256x256 : Shape := ⟨2, ![256, 256]⟩
abbrev S1 : Shape := ⟨1, ![1]⟩
abbrev S192x128 : Shape := ⟨2, ![192, 128]⟩
abbrev S1x128 : Shape := ⟨2, ![1, 128]⟩
abbrev S128 : Shape := ⟨1, ![128]⟩
abbrev S24x128 : Shape := ⟨2, ![24, 128]⟩
abbrev S96x128 : Shape := ⟨2, ![96, 128]⟩

abbrev nBuf : Space → Nat
  | .hbm => 17
  | .vmem => 21
  | .smem => 1
  | _ => 0

abbrev bufTy : (tb : Table) → Fin (tcTables nBuf tb) → BufTy
  | .hbm, ⟨0, _⟩ => ⟨S2x128x192, .bf16⟩
  | .hbm, ⟨1, _⟩ => ⟨S20480x128, .i32⟩
  | .hbm, ⟨2, _⟩ => ⟨S128x128, .i32⟩
  | .hbm, ⟨3, _⟩ => ⟨S24x20480, .i32⟩
  | .hbm, ⟨4, _⟩ => ⟨S20480, .f32⟩
  | .hbm, ⟨5, _⟩ => ⟨S20480, .f32⟩
  | .hbm, ⟨6, _⟩ => ⟨S20480, .f32⟩
  | .hbm, ⟨7, _⟩ => ⟨S128x2x24x8, .bf16⟩
  | .hbm, ⟨8, _⟩ => ⟨S8x24x2x128, .bf16⟩
  | .hbm, ⟨9, _⟩ => ⟨S192x256, .bf16⟩
  | .hbm, ⟨10, _⟩ => ⟨S160x128, .f32⟩
  | .hbm, ⟨11, _⟩ => ⟨S160x128, .f32⟩
  | .hbm, ⟨12, _⟩ => ⟨S160x128, .f32⟩
  | .hbm, ⟨13, _⟩ => ⟨S96x20480, .i8⟩
  | .hbm, ⟨14, _⟩ => ⟨S160x128, .f32⟩
  | .hbm, ⟨15, _⟩ => ⟨S160x128, .f32⟩
  | .hbm, ⟨16, _⟩ => ⟨S160x128, .f32⟩
  | .local _ .vmem, ⟨0, _⟩ => ⟨S192x256, .bf16⟩
  | .local _ .vmem, ⟨1, _⟩ => ⟨S1024x128, .i32⟩
  | .local _ .vmem, ⟨2, _⟩ => ⟨S1024x128, .i32⟩
  | .local _ .vmem, ⟨3, _⟩ => ⟨S24x1024, .i32⟩
  | .local _ .vmem, ⟨4, _⟩ => ⟨S24x1024, .i32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S96x1024, .i8⟩
  | .local _ .vmem, ⟨12, _⟩ => ⟨S96x1024, .i8⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S192x1024, .f32⟩
  | .local _ .vmem, ⟨20, _⟩ => ⟨S128x128, .i32⟩
  | .local _ .smem, ⟨0, _⟩ => ⟨S512, .i32⟩
  | _, _ => ⟨S2x128x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![20], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8_i32 : BitVec 32 := 8#32
  let v94 : BitVec 32 := Scalar.addi c0_i32 c8_i32
  let c1_i32 : BitVec 32 := 1#32
  ⟨c0_i32, v94, c1_i32⟩
def k0_off1 (i : grid0.Coords) (k0_t1 : Fin k0_t1_loop.trips) : Fin 1 → Nat :=
  let arg0 : BitVec 32 := BitVec.ofNat 32 (i 0).val
  let c8_i32_561 : BitVec 32 := 8#32
  let v2153 : BitVec 32 := Scalar.muli arg0 c8_i32_561
  let c0_i32_560 : BitVec 32 := 0#32
  let c0_i32 : BitVec 32 := 0#32
  let c1_i32 : BitVec 32 := 1#32
  let arg16 : BitVec 32 := Scf.iv c0_i32 c1_i32 k0_t1
  let c1_i32_559 : BitVec 32 := 1#32
  let v2151 : BitVec 32 := Scalar.muli arg16 c1_i32_559
  let v2152 : BitVec 32 := Scalar.addi c0_i32_560 v2151
  let v2154 : BitVec 32 := Scalar.addi v2153 v2152
  let c0_i32_562 : BitVec 32 := 0#32
  let v2156 : BitVec 1 := Scalar.cmpi .sgt v2154 c0_i32_562
  let v2157 : BitVec 32 := Scalar.extui v2156
  let c0_i32_563 : BitVec 32 := 0#32
  let v2158 : BitVec 1 := Scalar.cmpi .slt v2154 c0_i32_563
  let v2159 : BitVec 32 := Scalar.extui v2158
  let v2160 : BitVec 32 := Scalar.subi v2157 v2159
  let c5_i32 : BitVec 32 := 5#32
  let c0_i32_564 : BitVec 32 := 0#32
  let v2161 : BitVec 1 := Scalar.cmpi .sgt c5_i32 c0_i32_564
  let v2162 : BitVec 32 := Scalar.extui v2161
  let c0_i32_565 : BitVec 32 := 0#32
  let v2163 : BitVec 1 := Scalar.cmpi .slt c5_i32 c0_i32_565
  let v2164 : BitVec 32 := Scalar.extui v2163
  let v2165 : BitVec 32 := Scalar.subi v2162 v2164
  let v2166 : BitVec 1 := Scalar.cmpi .ne v2160 v2165
  let v2167 : BitVec 32 := Scalar.remsi v2154 c5_i32
  let c0_i32_566 : BitVec 32 := 0#32
  let v2168 : BitVec 1 := Scalar.cmpi .ne v2167 c0_i32_566
  let v2169 : BitVec 1 := Scalar.andi v2166 v2168
  let v2155 : BitVec 32 := Scalar.divsi v2154 c5_i32
  let c1_i32_567 : BitVec 32 := 1#32
  let v2170 : BitVec 32 := Scalar.subi v2155 c1_i32_567
  let v2171 : BitVec 32 := Scalar.select v2169 v2170 v2155
  let c16_i32_568 : BitVec 32 := 16#32
  let v2172 : BitVec 32 := Scalar.muli v2171 c16_i32_568
  let c5_i32_569 : BitVec 32 := 5#32
  let c0_i32_570 : BitVec 32 := 0#32
  let v2173 : BitVec 1 := Scalar.cmpi .eq c5_i32_569 c0_i32_570
  let c1_i32_571 : BitVec 32 := 1#32
  let v2174 : BitVec 32 := Scalar.select v2173 c1_i32_571 c5_i32_569
  let v2175 : BitVec 32 := Scalar.remsi v2154 v2174
  let c0_i32_573 : BitVec 32 := 0#32
  let v2177 : BitVec 1 := Scalar.cmpi .slt v2175 c0_i32_573
  let c0_i32_574 : BitVec 32 := 0#32
  let v2178 : BitVec 1 := Scalar.cmpi .slt v2174 c0_i32_574
  let v2179 : BitVec 1 := Scalar.xori v2177 v2178
  let c0_i32_572 : BitVec 32 := 0#32
  let v2176 : BitVec 1 := Scalar.cmpi .ne v2175 c0_i32_572
  let v2180 : BitVec 1 := Scalar.andi v2179 v2176
  let v2181 : BitVec 32 := Scalar.addi v2175 v2174
  let v2182 : BitVec 32 := Scalar.select v2180 v2181 v2175
  let v2183 : BitVec 32 := Scalar.addi v2172 v2182
  let v2184 : Index := Scalar.indexCast v2183
  ![v2184.toNat]
def k0_mult1 (k0_t1 : Fin k0_t1_loop.trips) : BitVec 32 :=
  let c0_i32_560 : BitVec 32 := 0#32
  let c0_i32 : BitVec 32 := 0#32
  let c1_i32 : BitVec 32 := 1#32
  let arg16 : BitVec 32 := Scf.iv c0_i32 c1_i32 k0_t1
  let c1_i32_559 : BitVec 32 := 1#32
  let v2151 : BitVec 32 := Scalar.muli arg16 c1_i32_559
  let v2152 : BitVec 32 := Scalar.addi c0_i32_560 v2151
  let c128_i32 : BitVec 32 := 128#32
  let v2186 : BitVec 32 := Scalar.muli v2152 c128_i32
  v2186
def k0_off2 (k0_t1 : Fin k0_t1_loop.trips) : Fin 2 → Nat :=
  let c0_i32_560 : BitVec 32 := 0#32
  let c0_i32 : BitVec 32 := 0#32
  let c1_i32 : BitVec 32 := 1#32
  let arg16 : BitVec 32 := Scf.iv c0_i32 c1_i32 k0_t1
  let c1_i32_559 : BitVec 32 := 1#32
  let v2151 : BitVec 32 := Scalar.muli arg16 c1_i32_559
  let v2152 : BitVec 32 := Scalar.addi c0_i32_560 v2151
  let c128_i32_579 : BitVec 32 := 128#32
  let v2194 : BitVec 32 := Scalar.muli v2152 c128_i32_579
  let v2195 : Index := Scalar.indexCast v2194
  let c0_580 : Index := 0#32
  ![v2195.toNat, 0]
def k0_off3 (k0_t1 : Fin k0_t1_loop.trips) : Fin 2 → Nat :=
  let c0_583 : Index := 0#32
  let c0_i32_560 : BitVec 32 := 0#32
  let c0_i32 : BitVec 32 := 0#32
  let c1_i32 : BitVec 32 := 1#32
  let arg16 : BitVec 32 := Scf.iv c0_i32 c1_i32 k0_t1
  let c1_i32_559 : BitVec 32 := 1#32
  let v2151 : BitVec 32 := Scalar.muli arg16 c1_i32_559
  let v2152 : BitVec 32 := Scalar.addi c0_i32_560 v2151
  let c128_i32 : BitVec 32 := 128#32
  let v2186 : BitVec 32 := Scalar.muli v2152 c128_i32
  let v2187 : BitVec 32 := v2186
  let v2208 : Index := Scalar.indexCast v2187
  ![0, v2208.toNat]
def k0_off4 (k0_t1 : Fin k0_t1_loop.trips) : Fin 2 → Nat :=
  let c0_583 : Index := 0#32
  let c0_i32_560 : BitVec 32 := 0#32
  let c0_i32 : BitVec 32 := 0#32
  let c1_i32 : BitVec 32 := 1#32
  let arg16 : BitVec 32 := Scf.iv c0_i32 c1_i32 k0_t1
  let c1_i32_559 : BitVec 32 := 1#32
  let v2151 : BitVec 32 := Scalar.muli arg16 c1_i32_559
  let v2152 : BitVec 32 := Scalar.addi c0_i32_560 v2151
  let c128_i32 : BitVec 32 := 128#32
  let v2186 : BitVec 32 := Scalar.muli v2152 c128_i32
  let v2187 : BitVec 32 := v2186
  let v2206 : Index := Scalar.indexCast v2187
  ![0, v2206.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S512 : Shape := ⟨1, ![512]⟩
abbrev S2x128x192 : Shape := ⟨3, ![2, 128, 192]⟩
abbrev S20480x128 : Shape := ⟨2, ![20480, 128]⟩
abbrev S128x128 : Shape := ⟨2, ![128, 128]⟩
abbrev S24x20480 : Shape := ⟨2, ![24, 20480]⟩
abbrev S20480 : Shape := ⟨1, ![20480]⟩
abbrev S32x16 : Shape := ⟨2, ![32, 16]⟩
abbrev S32x5 : Shape := ⟨2, ![32, 5]⟩
abbrev S160 : Shape := ⟨1, ![160]⟩
abbrev S160x128x128 : Shape := ⟨3, ![160, 128, 128]⟩
abbrev S_ : Shape := ⟨0, ![]⟩
abbrev S160x128x1x128 : Shape := ⟨4, ![160, 128, 1, 128]⟩
abbrev S160x128x2x128 : Shape := ⟨4, ![160, 128, 2, 128]⟩
abbrev S160x256x128 : Shape := ⟨3, ![160, 256, 128]⟩
abbrev S160x1x1 : Shape := ⟨3, ![160, 1, 1]⟩
abbrev S128x1x128 : Shape := ⟨3, ![128, 1, 128]⟩
abbrev S128x2x128 : Shape := ⟨3, ![128, 2, 128]⟩
abbrev S256x128 : Shape := ⟨2, ![256, 128]⟩
abbrev S1x256x128 : Shape := ⟨3, ![1, 256, 128]⟩
abbrev S160x128x256 : Shape := ⟨3, ![160, 128, 256]⟩
abbrev S20480x256 : Shape := ⟨2, ![20480, 256]⟩
abbrev S256x192 : Shape := ⟨2, ![256, 192]⟩
abbrev S20480x192 : Shape := ⟨2, ![20480, 192]⟩
abbrev S20480x24 : Shape := ⟨2, ![20480, 24]⟩
abbrev S20480x24x1 : Shape := ⟨3, ![20480, 24, 1]⟩
abbrev S4 : Shape := ⟨1, ![4]⟩
abbrev S1x1x4 : Shape := ⟨3, ![1, 1, 4]⟩
abbrev S20480x24x4 : Shape := ⟨3, ![20480, 24, 4]⟩
abbrev S20480x96 : Shape := ⟨2, ![20480, 96]⟩
abbrev S20480x1 : Shape := ⟨2, ![20480, 1]⟩
abbrev S20480x96x2 : Shape := ⟨3, ![20480, 96, 2]⟩
abbrev S20480x96x1 : Shape := ⟨3, ![20480, 96, 1]⟩
abbrev S96x20480 : Shape := ⟨2, ![96, 20480]⟩
abbrev S160x128 : Shape := ⟨2, ![160, 128]⟩

abbrev nBuf : Space → Nat
  | .hbm => 172
  | .vmem => 0
  | .smem => 0
  | _ => 0

abbrev hbmTy0_0 (i : Nat) : BufTy := match i % 128 with
  | 0 => ⟨S512, .i32⟩
  | 1 => ⟨S2x128x192, .bf16⟩
  | 2 => ⟨S20480x128, .i32⟩
  | 3 => ⟨S128x128, .i32⟩
  | 4 => ⟨S24x20480, .i32⟩
  | 5 => ⟨S20480, .f32⟩
  | 6 => ⟨S20480, .f32⟩
  | 7 => ⟨S20480, .f32⟩
  | 8 => ⟨S32x16, .i32⟩
  | 9 => ⟨S32x5, .i32⟩
  | 10 => ⟨S160, .i32⟩
  | 11 => ⟨S160x128x128, .i32⟩
  | 12 => ⟨S_, .i32⟩
  | 13 => ⟨S160x128x128, .i32⟩
  | 14 => ⟨S160x128x128, .i32⟩
  | 15 => ⟨S_, .i32⟩
  | 16 => ⟨S160x128x128, .i32⟩
  | 17 => ⟨S160x128x128, .i32⟩
  | 18 => ⟨S160x128x1x128, .i32⟩
  | 19 => ⟨S160x128x1x128, .i32⟩
  | 20 => ⟨S160x128x2x128, .i32⟩
  | 21 => ⟨S160x256x128, .i32⟩
  | 22 => ⟨S160x256x128, .f32⟩
  | 23 => ⟨S160x1x1, .i32⟩
  | 24 => ⟨S_, .i32⟩
  | 25 => ⟨S160x1x1, .i32⟩
  | 26 => ⟨S160x1x1, .i1⟩
  | 27 => ⟨S_, .i32⟩
  | 28 => ⟨S128x128, .i32⟩
  | 29 => ⟨S128x128, .i32⟩
  | 30 => ⟨S_, .i32⟩
  | 31 => ⟨S128x128, .i32⟩
  | 32 => ⟨S128x128, .i32⟩
  | 33 => ⟨S128x1x128, .i32⟩
  | 34 => ⟨S128x1x128, .i32⟩
  | 35 => ⟨S128x2x128, .i32⟩
  | 36 => ⟨S256x128, .i32⟩
  | 37 => ⟨S256x128, .f32⟩
  | 38 => ⟨S1x256x128, .f32⟩
  | 39 => ⟨S_, .f32⟩
  | 40 => ⟨S160x256x128, .i1⟩
  | 41 => ⟨S160x256x128, .f32⟩
  | 42 => ⟨S160x256x128, .f32⟩
  | 43 => ⟨S160x256x128, .f32⟩
  | 44 => ⟨S160x256x128, .f32⟩
  | 45 => ⟨S160x128x256, .f32⟩
  | 46 => ⟨S20480x256, .f32⟩
  | 47 => ⟨S256x192, .bf16⟩
  | 48 => ⟨S256x192, .f32⟩
  | 49 => ⟨S20480x192, .f32⟩
  | 50 => ⟨S20480x24, .i32⟩
  | 51 => ⟨S20480x24x1, .i32⟩
  | 52 => ⟨S4, .i32⟩
  | 53 => ⟨S_, .i32⟩
  | 54 => ⟨S4, .i32⟩
  | 55 => ⟨S4, .i32⟩
  | 56 => ⟨S1x1x4, .i32⟩
  | 57 => ⟨S20480x24x4, .i32⟩
  | 58 => ⟨S20480x24x4, .i32⟩
  | 59 => ⟨S20480x24x4, .i32⟩
  | 60 => ⟨S_, .i32⟩
  | 61 => ⟨S20480x24x4, .i32⟩
  | 62 => ⟨S20480x24x4, .i32⟩
  | 63 => ⟨S20480x96, .i32⟩
  | 64 => ⟨S_, .i32⟩
  | 65 => ⟨S20480x96, .i32⟩
  | 66 => ⟨S20480x96, .i32⟩
  | 67 => ⟨S20480x96, .f32⟩
  | 68 => ⟨S20480x1, .f32⟩
  | 69 => ⟨S20480x96, .f32⟩
  | 70 => ⟨S20480x96, .f32⟩
  | 71 => ⟨S20480x1, .f32⟩
  | 72 => ⟨S20480x96, .f32⟩
  | 73 => ⟨S20480x96, .f32⟩
  | 74 => ⟨S_, .i32⟩
  | 75 => ⟨S20480x96, .i32⟩
  | 76 => ⟨S20480x96, .i32⟩
  | 77 => ⟨S20480x96, .f32⟩
  | 78 => ⟨S20480x1, .f32⟩
  | 79 => ⟨S20480x96, .f32⟩
  | 80 => ⟨S20480x96, .f32⟩
  | 81 => ⟨S20480x1, .f32⟩
  | 82 => ⟨S20480x96, .f32⟩
  | 83 => ⟨S20480x96, .f32⟩
  | 84 => ⟨S20480x192, .f32⟩
  | 85 => ⟨S_, .f32⟩
  | 86 => ⟨S20480, .f32⟩
  | 87 => ⟨S_, .f32⟩
  | 88 => ⟨S20480, .f32⟩
  | 89 => ⟨S20480, .f32⟩
  | 90 => ⟨S20480, .f32⟩
  | 91 => ⟨S20480, .f32⟩
  | 92 => ⟨S_, .f32⟩
  | 93 => ⟨S20480, .f32⟩
  | 94 => ⟨S20480, .f32⟩
  | 95 => ⟨S20480x1, .f32⟩
  | 96 => ⟨S20480x96x2, .f32⟩
  | 97 => ⟨S20480x96x1, .f32⟩
  | 98 => ⟨S20480x96, .f32⟩
  | 99 => ⟨S_, .f32⟩
  | 100 => ⟨S20480x96, .f32⟩
  | 101 => ⟨S20480x96, .f32⟩
  | 102 => ⟨S20480x96, .f32⟩
  | 103 => ⟨S20480x96, .f32⟩
  | 104 => ⟨S20480x96, .f32⟩
  | 105 => ⟨S20480x96x1, .f32⟩
  | 106 => ⟨S20480x96, .f32⟩
  | 107 => ⟨S_, .f32⟩
  | 108 => ⟨S20480x96, .f32⟩
  | 109 => ⟨S20480x96, .f32⟩
  | 110 => ⟨S20480x96, .f32⟩
  | 111 => ⟨S20480x96, .f32⟩
  | 112 => ⟨S20480x96, .f32⟩
  | 113 => ⟨S_, .f32⟩
  | 114 => ⟨S20480, .f32⟩
  | 115 => ⟨S_, .f32⟩
  | 116 => ⟨S20480, .f32⟩
  | 117 => ⟨S20480, .f32⟩
  | 118 => ⟨S_, .f32⟩
  | 119 => ⟨S20480, .f32⟩
  | 120 => ⟨S_, .f32⟩
  | 121 => ⟨S20480, .f32⟩
  | 122 => ⟨S20480, .f32⟩
  | 123 => ⟨S20480, .i1⟩
  | 124 => ⟨S20480, .f32⟩
  | 125 => ⟨S_, .f32⟩
  | 126 => ⟨S20480, .f32⟩
  | 127 => ⟨S20480, .f32⟩
  | _ => ⟨S512, .i32⟩

abbrev hbmTy0_1 (i : Nat) : BufTy := match i % 128 with
  | 0 => ⟨S_, .f32⟩
  | 1 => ⟨S20480, .f32⟩
  | 2 => ⟨S20480, .f32⟩
  | 3 => ⟨S20480x1, .f32⟩
  | 4 => ⟨S20480x96, .f32⟩
  | 5 => ⟨S20480x96, .f32⟩
  | 6 => ⟨S20480x1, .f32⟩
  | 7 => ⟨S20480x96, .f32⟩
  | 8 => ⟨S20480x96, .f32⟩
  | 9 => ⟨S20480x96, .f32⟩
  | 10 => ⟨S_, .f32⟩
  | 11 => ⟨S_, .f32⟩
  | 12 => ⟨S_, .f32⟩
  | 13 => ⟨S20480x96, .f32⟩
  | 14 => ⟨S20480x96, .f32⟩
  | 15 => ⟨S_, .f32⟩
  | 16 => ⟨S20480x96, .f32⟩
  | 17 => ⟨S20480x96, .f32⟩
  | 18 => ⟨S20480x96, .i32⟩
  | 19 => ⟨S20480x1, .f32⟩
  | 20 => ⟨S20480x96, .f32⟩
  | 21 => ⟨S20480x96, .f32⟩
  | 22 => ⟨S20480x1, .f32⟩
  | 23 => ⟨S20480x96, .f32⟩
  | 24 => ⟨S20480x96, .f32⟩
  | 25 => ⟨S20480x96, .f32⟩
  | 26 => ⟨S_, .f32⟩
  | 27 => ⟨S_, .f32⟩
  | 28 => ⟨S_, .f32⟩
  | 29 => ⟨S20480x96, .f32⟩
  | 30 => ⟨S20480x96, .f32⟩
  | 31 => ⟨S_, .f32⟩
  | 32 => ⟨S20480x96, .f32⟩
  | 33 => ⟨S20480x96, .f32⟩
  | 34 => ⟨S20480x96, .i32⟩
  | 35 => ⟨S_, .i32⟩
  | 36 => ⟨S20480x96, .i32⟩
  | 37 => ⟨S20480x96, .i32⟩
  | 38 => ⟨S20480x96, .i32⟩
  | 39 => ⟨S20480x96, .i8⟩
  | 40 => ⟨S96x20480, .i8⟩
  | 41 => ⟨S160x128, .f32⟩
  | 42 => ⟨S160x128, .f32⟩
  | 43 => ⟨S160x128, .f32⟩
  | _ => ⟨S512, .i32⟩

abbrev hbmTy (i : Nat) : BufTy := match i / 128 with
  | 0 => hbmTy0_0 i
  | 1 => hbmTy0_1 i
  | _ => ⟨S512, .i32⟩

abbrev bufTy : (tb : Table) → Fin (tcTables nBuf tb) → BufTy
  | .hbm, ⟨i, _⟩ => hbmTy i
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_7 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_8 : Ref sig .tc := ⟨.hbm, 85, rfl⟩
abbrev main_v64 : Ref sig .tc := ⟨.hbm, 86, rfl⟩
abbrev main_cst_9 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_10 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_11 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_12 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_13 : Ref sig .tc := ⟨.hbm, 113, rfl⟩
abbrev main_v87 : Ref sig .tc := ⟨.hbm, 114, rfl⟩
abbrev main_cst_14 : Ref sig .tc := ⟨.hbm, 115, rfl⟩
abbrev main_v88 : Ref sig .tc := ⟨.hbm, 116, rfl⟩
abbrev main_v89 : Ref sig .tc := ⟨.hbm, 117, rfl⟩
abbrev main_cst_15 : Ref sig .tc := ⟨.hbm, 118, rfl⟩
abbrev main_v90 : Ref sig .tc := ⟨.hbm, 119, rfl⟩
abbrev main_cst_16 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_17 : Ref sig .tc := ⟨.hbm, 125, rfl⟩
abbrev main_v95 : Ref sig .tc := ⟨.hbm, 126, rfl⟩
abbrev main_v96 : Ref sig .tc := ⟨.hbm, 127, rfl⟩
abbrev main_cst_18 : Ref sig .tc := ⟨.hbm, 128, rfl⟩
abbrev main_call1_v0 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_19 : Ref sig .tc := ⟨.hbm, 138, rfl⟩
abbrev main_cst_20 : Ref sig .tc := ⟨.hbm, 139, rfl⟩
abbrev main_call3_v0 : Ref sig .tc := ⟨.hbm, 140, rfl⟩
abbrev main_call3_v1 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_21 : Ref sig .tc := ⟨.hbm, 154, rfl⟩
abbrev main_cst_22 : Ref sig .tc := ⟨.hbm, 155, rfl⟩
abbrev main_call5_v0 : Ref sig .tc := ⟨.hbm, 156, rfl⟩
abbrev main_call5_v1 : Ref sig .tc := ⟨.hbm, 157, rfl⟩
abbrev main_call5_v2 : Ref sig .tc := ⟨.hbm, 158, rfl⟩
abbrev main_call5_v3 : Ref sig .tc := ⟨.hbm, 159, rfl⟩
abbrev main_call5_v4 : Ref sig .tc := ⟨.hbm, 160, rfl⟩
abbrev main_v114 : Ref sig .tc := ⟨.hbm, 161, rfl⟩
abbrev main_v115 : Ref sig .tc := ⟨.hbm, 162, rfl⟩
abbrev main_c_23 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩

abbrev nD : Nat := 1
abbrev τ : Topo := Topo.v7x

variable {F : FTy → Type} [FloatOps F]
-- ==== Proof.Kit.lean ====
/- The call's frame kit: what the host operations before the call leave, the prefetched table, the windows' blocks,
   the staging and scratch memrefs, and how the frame claim follows from a run. -/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- An array that no host operation before the region writes is found by the region as launched. -/
theorem V_of_not_written (c : Dev nD) (b : Ref sig .tc)
    (h : ∀ r ∈ ([main_v0, main_v1, main_v2, main_v3, main_v4, main_v5] : List (Ref sig .tc)), b ≠ r) :
    V m c b = m ((c : Thread nD τ).loc b) :=
  StableHlo.after_of_forall_not_mem (b := Proc.devRef .tc b) _ _ (List.forall_iff_forall_mem.mp (by
    simp only [List.forall_mem_cons] at h
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h0, h1, h2, h3, h4, h5, -⟩ := h
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S512 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not, for ANY proof
    data whose array is `V`'s (`hA`) and whose body leaves the block in place (`hafter`): the window is an input
    (`h₁`), never idle (`h₂`) and uncut (`h₃`). -/
theorem before_of (hO : Ok m) {c : Dev nD} (dat : Dat τ (Elt F) Unit ℕ (Pipeline.UD sig nD τ) ℕ (cfgM m hO) c) (w : Fin (cfgM m hO).W)
    (hA : dat.A w = V m c (Pipeline.arrRef spec0 w)) (hafter : ∀ t, dat.after w t = iblk m hO c w t)
    (h₁ : ((cfgM m hO).win w).isOut = false) (h₂ : ∀ i : (cfgM m hO).grid.Coords, (cfgM m hO).idle w i = false)
    (h₃ : ∀ t t' : Fin (cfgM m hO).N, ((cfgM m hO).win w).index t = ((cfgM m hO).win w).index t' →
      ((cfgM m hO).win w).clip ((cfgM m hO).grid.coords t) = ((cfgM m hO).win w).clip ((cfgM m hO).grid.coords t'))
    (h₄ : ∀ t (d : ((cfgM m hO).win w).block.Idx → Elt F ((cfgM m hO).win w).elt)
      (x : (((cfgM m hO).win w).xblock ((cfgM m hO).grid.coords t)).Idx → Elt F ((cfgM m hO).win w).elt), ((cfgM m hO).win w).fill ((cfgM m hO).grid.coords t) d x = x)
    (t : Fin (cfgM m hO).N) (d) : dat.before w t d = iblk m hO c w t :=
  (dat.before_in_eq_fetched w h₁ h₂ h₃ (fun t => by rw [hafter]; unfold Dat.blockOf iblk; rw [hA]; try rfl) t d).trans
    (by unfold Dat.fetched Dat.blockOf iblk; rw [hA]; exact h₄ t d _)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_update (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (Memref.whole main_arg3) (Memref.isWhole_whole _) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _) cc0_scratch2

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (Pipeline.UD sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_of_not_written m c main_arg0 (by decide)),
      ((h c).2 main_arg1 (by decide : main_arg1 ∈ Pipeline.restRefs sig spec0)).trans (V_of_not_written m c main_arg1 (by decide)),
      ((h c).1 1).trans (((dats 0 c).arrAt_in 1 rfl _).trans ((hA c 1).trans (V_of_not_written m c main_arg2 (by decide)))),
      ((h c).2 main_arg3 (by decide : main_arg3 ∈ Pipeline.restRefs sig spec0)).trans (V_of_not_written m c main_arg3 (by decide)),
      ((h c).1 2).trans (((dats 0 c).arrAt_in 2 rfl _).trans ((hA c 2).trans (V_of_not_written m c main_arg4 (by decide)))),
      ((h c).2 main_arg5 (by decide : main_arg5 ∈ Pipeline.restRefs sig spec0)).trans (V_of_not_written m c main_arg5 (by decide)),
      ((h c).2 main_arg6 (by decide : main_arg6 ∈ Pipeline.restRefs sig spec0)).trans (V_of_not_written m c main_arg6 (by decide)),
      ((h c).2 main_arg7 (by decide : main_arg7 ∈ Pipeline.restRefs sig spec0)).trans (V_of_not_written m c main_arg7 (by decide))⟩) h

/-! ## The kernel body on any staging memrefs: a subtype the run finds -/

/-- One staging buffer of output window 6, through which its contents are stated (`View.read_writes_of_cover`: the
    choice does not matter). -/
abbrev VO0_6 : View sig .tc .vmem S96x1024 .i8 := (Memref.whole cc0_stg6_0 : Memref sig .tc .vmem S96x1024 .i8).view
/-- One staging buffer of output window 7, through which its contents are stated (`View.read_writes_of_cover`: the
    choice does not matter). -/
abbrev VO0_7 : View sig .tc .vmem S8x128 .f32 := (Memref.whole cc0_stg7_0 : Memref sig .tc .vmem S8x128 .f32).view
/-- One staging buffer of output window 8, through which its contents are stated (`View.read_writes_of_cover`: the
    choice does not matter). -/
abbrev VO0_8 : View sig .tc .vmem S8x128 .f32 := (Memref.whole cc0_stg8_0 : Memref sig .tc .vmem S8x128 .f32).view
/-- One staging buffer of output window 9, through which its contents are stated (`View.read_writes_of_cover`: the
    choice does not matter). -/
abbrev VO0_9 : View sig .tc .vmem S8x128 .f32 := (Memref.whole cc0_stg9_0 : Memref sig .tc .vmem S8x128 .f32).view
/-- Each window's current staging memref at point `t`, spelled as the pipeline passes it (`bodyAt0`), and its wholeness. -/
abbrev ms0_0 (hO : Ok m) (t : Fin (cfgM m hO).N) : Memref sig .tc .vmem S192x256 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1024x128 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S24x1024 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S8x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S8x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S8x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S96x1024 .i8 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S8x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S8x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S8x128 .f32 := spec0_9.stage ((cfgM m hO).slots t 9)
abbrev hs0_9 (hO : Ok m) (t : Fin (cfgM m hO).N) : (ms0_9 m hO t).IsWhole := hstage0_9 (((cfgM m hO).slots t 9).cast nbuf0_9)
/-- The scratch operands: whole scoped buffers of the kernel's own, passed beside the windows. -/
abbrev scM0_0 : Memref sig .tc .vmem S192x1024 .f32 := Memref.whole cc0_scratch0
abbrev scM0_1 : Memref sig .tc .vmem S128x128 .i32 := Memref.whole cc0_scratch1
/-- The operands left in HBM that the body copies into scratch itself, whole. -/
abbrev hbM0_0 : Memref sig .tc .hbm S128x128 .i32 := Memref.whole main_arg3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 19] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 19) 0) := by
  rw [Pipeline.ownSems0_eq_of_list c osem0 [0] (by decide) (by decide)]; rfl
/-- The HBM operands the body moves, as references: unscoped, no window's array, no table (`Pipeline.restRefsP`). -/
def H0 : Finset (Ref sig .tc) := {main_arg3}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg3)) := by
  rw [BI.bigSep_eq_bigSepL_of_eq [main_arg3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 19) 0) ∗ iprop(hbPt0 c hbM0_0 (V m c main_arg3))) := by
  rw [Pipeline.ΦD_eq, scopedRest0_eq, ownSems00_eq, hbmPts0_eq]; simp only [scM0_0, scM0_1, owns_whole]; try rfl

end Cert.Kernel.Hand

end
-- ==== Proof.Loop.lean ====
module

public import proofs.«01_k».proof.Proof.Kit

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One trip of the kernel's loop -/

section Loop

variable (c : Dev nD) (i : grid0.Coords) (arg3 : Memref sig .tc .vmem S1024x128 .i32) (arg13 : Memref sig .tc .vmem S192x1024 .f32) (arg14 : Memref sig .tc .vmem S128x128 .i32)
  (v1 : FVec F S192x256 .bf16) (f1 : Buf (Elt F) (arg3.view.loc (c : Thread nD τ))) (xt0 : TbBuf0 (F := F) c tbM0_0) (fh0 : HbBuf0 (F := F) c hbM0_0)

/-- The table's word a trip reads: how high the counts of that tile's byte pairs go. -/
def lvl (k : Fin k0_t1_loop.trips) : BitVec 32 :=
  View.readAt (Elt F) tbM0_0.view (Rect.unit (s := S512) (k0_off1 i k) S1.size (k0_off1_inb i k)).toLoadRect xt0
    (Shape.Idx.first (Nat.lt_of_lt_of_eq Nat.one_pos numel1_S1.symm))

/-- What a trip loads of the copied block of extra counts. -/
def extraLd : Vec F S128x128 .i32 :=
  arg14.view.readCov [⟨Rect.whole S128x128, ReadAs.same.apply (View.read (Elt F) (Memref.whole main_arg3).view fh0)⟩]
    (Rect.unit (s := S128x128) ![0, 0] S128x128.size inb_S128x128_S128x128_0_0).toLoadRect

/-- The accumulator after the first conditional of a trip: where the tile's word is above zero, the trip's columns have
    their product with the counts' low halves added. -/
def trip1 (k : Fin k0_t1_loop.trips) (G : Buf (Elt F) (arg13.view.loc (c : Thread nD τ))) : Buf (Elt F) (arg13.view.loc (c : Thread nD τ)) :=
  if hc : Scalar.cmpi .ne (Scalar.extui (Scalar.cmpi .sgt (lvl c i xt0 k) 0#32)) 0#32 = 1#1 then
    arg13.view.writes (Elt F) G [⟨Rect.unit (s := S192x1024) (k0_off3 k) S192x128.size (k0_off3_inb k),
      k0_pay10 v1 (arg3.view.readAt (Elt F) (Rect.unit (s := S1024x128) (k0_off2 k) S128x128.size (k0_off2_inb k)).toLoadRect f1)
        (arg13.view.readAt (Elt F) (Rect.unit (s := S192x1024) (k0_off3 k) S192x128.size (k0_off3_inb k)).toLoadRect G)⟩]
  else G

/-- The accumulator after a trip: where the tile's word is above one, the extra counts' product is added as well. -/
def trip2 (k : Fin k0_t1_loop.trips) (G : Buf (Elt F) (arg13.view.loc (c : Thread nD τ))) : Buf (Elt F) (arg13.view.loc (c : Thread nD τ)) :=
  if hc : Scalar.cmpi .ne (Scalar.extui (Scalar.cmpi .sgt (lvl c i xt0 k) 1#32)) 0#32 = 1#1 then
    arg13.view.writes (Elt F) (trip1 c i arg3 arg13 v1 f1 xt0 k G) [⟨Rect.unit (s := S192x1024) (k0_off4 k) S192x128.size (k0_off4_inb k),
      k0_pay11 v1 (extraLd c arg14 fh0)
        (arg13.view.readAt (Elt F) (Rect.unit (s := S192x1024) (k0_off4 k) S192x128.size (k0_off4_inb k)).toLoadRect (trip1 c i arg3 arg13 v1 f1 xt0 k G))⟩]
  else trip1 c i arg3 arg13 v1 f1 xt0 k G

/-- The accumulator before trip `k`, from what it holds when the loop is entered. -/
def gB (G0 : Buf (Elt F) (arg13.view.loc (c : Thread nD τ))) : ℕ → Buf (Elt F) (arg13.view.loc (c : Thread nD τ))
  | 0 => G0
  | k + 1 => if h : k < k0_t1_loop.trips then trip2 c i arg3 arg13 arg14 v1 f1 xt0 fh0 ⟨k, h⟩ (gB G0 k) else gB G0 k

/-- What a trip uses, the accumulator at `G`: the staged counts, the accumulator, the buffer of the extra counts, the
    table, the transfer's semaphore at zero, the extra counts' array, and the waits recorded. -/
abbrev Trip (G : Buf (Elt F) (arg13.view.loc (c : Thread nD τ))) : sProp 𝕄 :=
  iprop((arg3.view.loc (c : Thread nD τ) ↦[arg3.view.set]{fullShare} f1) ∗ (arg13.view.loc (c : Thread nD τ) ↦[arg13.view.set]{fullShare} G)
    ∗ (∃ f, arg14.view.loc (c : Thread nD τ) ↦[arg14.view.set]{fullShare} f)
    ∗ tbPt0 c tbM0_0 xt0 ∗ semVal ((c : Thread nD τ), SemLoc.dma 19) 0 ∗ hbPt0 c hbM0_0 fh0 ∗ (∃ W, owes (c : Thread nD τ) 0 W))

end Loop

/-- ONE TRIP of the loop takes the accumulator from `G` to `trip2 … G`. -/
theorem trip_run (c : Dev nD) (i : grid0.Coords) (arg2 : Memref sig .tc .vmem S192x256 .bf16) (harg2 : arg2.IsWhole) (arg3 : Memref sig .tc .vmem S1024x128 .i32) (harg3 : arg3.IsWhole) (arg5 : Memref sig .tc .vmem S24x1024 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S96x1024 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S192x1024 .f32) (harg13 : arg13.IsWhole) (arg14 : Memref sig .tc .vmem S128x128 .i32) (harg14 : arg14.IsWhole)
   (arg0 : BitVec 32) (v1 : FVec F S192x256 .bf16) (v74 : FVec F S128x128 .f32) (v76 : IVec S128x128 32)
   (f1 : Buf (Elt F) (arg3.view.loc (c : Thread nD τ))) (xt0 : TbBuf0 (F := F) c tbM0_0) (fh0 : HbBuf0 (F := F) c hbM0_0) (G : Buf (Elt F) (arg13.view.loc (c : Thread nD τ)))
   (k : Fin k0_t1_loop.trips) (u : Unit) :
    Trip c arg3 arg13 arg14 f1 xt0 fh0 G
     ⊢ wp frame (wpE (defs₀ (F := F)) Variants.none c none) Set.univ (k0_t1_body i tbM0_0 htbM0_0 arg2 harg2 arg3 harg3 (Memref.whole main_arg3) (Memref.isWhole_whole _) arg5 harg5 arg6 harg6 arg7 harg7 arg8 harg8 arg9 harg9 arg10 harg10 arg11 harg11 arg12 harg12 arg13 harg13 arg14 harg14 cc0_scratch2 arg0 v1 v74 v76 k u)
        (fun _ => Trip c arg3 arg13 arg14 f1 xt0 fh0 (trip2 c i arg3 arg13 arg14 v1 f1 xt0 fh0 k G)) := by
  unfold k0_t1_body
  simp only [k0_part1_eq_skeleton]; unfold k0_part1_skel
  iintro ⟨H1, HS0, ⟨%fs1, HS1⟩, HT0, Hq0, Hh0, ⟨%W, HW⟩⟩
  sl_exec
  sl_step
  isplitl [H1]; · iexact H1
  isplitl [HS0]; · iexact HS0
  isplitl [HS1]; · iexists _; iexact HS1
  isplitl [HT0]; · iexact HT0
  isplitl [Hq0]; · iexact Hq0
  isplitl [Hh0]; · iexact Hh0
  iexists _; iexact HW

set_option warn.classDefReducibility false in
/-- THE LOOP'S INVARIANT: before trip `k` the accumulator holds `gB … k`. -/
@[sl_loop] def loopInv_k0_t1 (c : Dev nD) (i : grid0.Coords) (arg2 : Memref sig .tc .vmem S192x256 .bf16) (harg2 : arg2.IsWhole) (arg3 : Memref sig .tc .vmem S1024x128 .i32) (harg3 : arg3.IsWhole) (arg5 : Memref sig .tc .vmem S24x1024 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S96x1024 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S192x1024 .f32) (harg13 : arg13.IsWhole) (arg14 : Memref sig .tc .vmem S128x128 .i32) (harg14 : arg14.IsWhole)
   (arg0 : BitVec 32) (v1 : FVec F S192x256 .bf16) (v74 : FVec F S128x128 .f32) (v76 : IVec S128x128 32)
   (f1 : Buf (Elt F) (arg3.view.loc (c : Thread nD τ))) (xt0 : TbBuf0 (F := F) c tbM0_0) (fh0 : HbBuf0 (F := F) c hbM0_0) (G0 : Buf (Elt F) (arg13.view.loc (c : Thread nD τ))) :
    LoopInvTy_k0_t1 (F := F) Unit ℕ (Pipeline.UD sig nD τ) ℕ Variants.none c none Set.univ i tbM0_0 htbM0_0 arg2 harg2 arg3 harg3 (Memref.whole main_arg3) (Memref.isWhole_whole _) arg5 harg5 arg6 harg6 arg7 harg7 arg8 harg8 arg9 harg9 arg10 harg10 arg11 harg11 arg12 harg12 arg13 harg13 arg14 harg14 cc0_scratch2 arg0 v1 v74 v76 where
  inv k _ := Trip c arg3 arg13 arg14 f1 xt0 fh0 (gB c i arg3 arg13 arg14 v1 f1 xt0 fh0 G0 k)
  step k u := by
    have e : gB c i arg3 arg13 arg14 v1 f1 xt0 fh0 G0 (k.val + 1) = trip2 c i arg3 arg13 arg14 v1 f1 xt0 fh0 k (gB c i arg3 arg13 arg14 v1 f1 xt0 fh0 G0 k) := by
      rw [gB, dif_pos k.isLt]
    rw [e]
    exact trip_run c i arg2 harg2 arg3 harg3 arg5 harg5 arg6 harg6 arg7 harg7 arg8 harg8 arg9 harg9 arg10 harg10 arg11 harg11 arg12 harg12 arg13 harg13 arg14 harg14 arg0 v1 v74 v76 f1 xt0 fh0 _ k u

end Cert.Kernel.Hand

end
-- ==== Proof.Run.lean ====
module

public import proofs.«01_k».proof.Proof.Loop

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large: the definition's epilogue — `abstractNestedProofs` — walks it past the default budget)
set_option maxHeartbeats 1180000 in
/-- What the body's stores leave in each output's staging memref, as pieces (last first), with the proof that on whole
    staging memrefs the body runs to a state that has those pieces written: the inputs' memrefs as they were, the
    accumulator and the buffer of extra counts at some contents, the transfer's semaphore at zero again. The loop is
    gone through by its invariant. -/
noncomputable def kernelRun0_A (c : Dev nD) (i : grid0.Coords) (arg2 : Memref sig .tc .vmem S192x256 .bf16) (harg2 : arg2.IsWhole) (arg3 : Memref sig .tc .vmem S1024x128 .i32) (harg3 : arg3.IsWhole) (arg5 : Memref sig .tc .vmem S24x1024 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S96x1024 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S192x1024 .f32) (harg13 : arg13.IsWhole) (arg14 : Memref sig .tc .vmem S128x128 .i32) (harg14 : arg14.IsWhole)
    (x0 : Vec F S192x256 .bf16) (x1 : Vec F S1024x128 .i32) (x2 : Vec F S24x1024 .i32) (x3 : Vec F S8x128 .f32) (x4 : Vec F S8x128 .f32) (x5 : Vec F S8x128 .f32) (xt0 : TbBuf0 (F := F) c tbM0_0) (fh0 : HbBuf0 (F := F) c hbM0_0) :
    Σ' (L6 : List (View.Piece (Elt F) S96x1024 .i8)), Σ' (L7 : List (View.Piece (Elt F) S8x128 .f32)), Σ' (L8 : List (View.Piece (Elt F) S8x128 .f32)), { L9 : List (View.Piece (Elt F) S8x128 .f32) //
      ∀ (W : Waits sig Unit) (K : PUnit → sProp 𝕄),
        iprop(owns (c : Thread nD τ) arg2 fullShare x0 ∗ owns (c : Thread nD τ) arg3 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0 ∗ semVal ((c : Thread nD τ), SemLoc.dma 19) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} f) ∗ (∃ f, arg14.view.loc (c : Thread nD τ) ↦[arg14.view.set]{fullShare} f) ∗ tbPt0 c tbM0_0 xt0 ∗ semVal ((c : Thread nD τ), SemLoc.dma 19) 0 ∗ hbPt0 c hbM0_0 fh0 ∗ (∃ W', owes (c : Thread nD τ) 0 W')) -∗ K ⟨⟩))
          ⊢ wp frame (wpE (defs₀ (F := F)) Variants.none c none) Set.univ (cc0_update i tbM0_0 htbM0_0 arg2 harg2 arg3 harg3 (Memref.whole main_arg3) (Memref.isWhole_whole _) arg5 harg5 arg6 harg6 arg7 harg7 arg8 harg8 arg9 harg9 arg10 harg10 arg11 harg11 arg12 harg12 arg13 harg13 arg14 harg14 cc0_scratch2) K } := by
  refine ⟨?_, ?_, ?_, ?_, fun W K => ?run⟩
  case run =>
    simp only [cc0_update_eq_skeleton]; unfold cc0_update_skel
    simp only [k0_part48_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, HT0, Hq0, Hh0, HW, Hk⟩
    obtain rfl := harg2.eq_unread hf0; obtain rfl := harg3.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HT0]; · iexact HT0
    isplitl [Hq0]; · iexact Hq0
    isplitl [Hh0]; · iexact Hh0
    iexists _; iexact HW

end Cert.Kernel.Hand

end
-- ==== Proof.Frame.lean ====
module

public import proofs.«01_k».proof.Proof.Run
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The run's pieces for output 6 tile its block, so they cover it. -/
theorem cover0_6 (c : Dev nD) (i : grid0.Coords) (arg2 : Memref sig .tc .vmem S192x256 .bf16) (harg2 : arg2.IsWhole) (arg3 : Memref sig .tc .vmem S1024x128 .i32) (harg3 : arg3.IsWhole) (arg5 : Memref sig .tc .vmem S24x1024 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S96x1024 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S192x1024 .f32) (harg13 : arg13.IsWhole) (arg14 : Memref sig .tc .vmem S128x128 .i32) (harg14 : arg14.IsWhole)
    (x0 : Vec F S192x256 .bf16) (x1 : Vec F S1024x128 .i32) (x2 : Vec F S24x1024 .i32) (x3 : Vec F S8x128 .f32) (x4 : Vec F S8x128 .f32) (x5 : Vec F S8x128 .f32) (xt0 : TbBuf0 (F := F) c tbM0_0) (fh0 : HbBuf0 (F := F) c hbM0_0) (y : S96x1024.Idx) :
    ∃ pc ∈ (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).1, y ∈ pc.1.set :=
  View.cover_of_tiledL (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).1 S96x128.size (by sl_kernel_rfl) y

/-- The run's pieces for output 7 tile its block, so they cover it. -/
theorem cover0_7 (c : Dev nD) (i : grid0.Coords) (arg2 : Memref sig .tc .vmem S192x256 .bf16) (harg2 : arg2.IsWhole) (arg3 : Memref sig .tc .vmem S1024x128 .i32) (harg3 : arg3.IsWhole) (arg5 : Memref sig .tc .vmem S24x1024 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S96x1024 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S192x1024 .f32) (harg13 : arg13.IsWhole) (arg14 : Memref sig .tc .vmem S128x128 .i32) (harg14 : arg14.IsWhole)
    (x0 : Vec F S192x256 .bf16) (x1 : Vec F S1024x128 .i32) (x2 : Vec F S24x1024 .i32) (x3 : Vec F S8x128 .f32) (x4 : Vec F S8x128 .f32) (x5 : Vec F S8x128 .f32) (xt0 : TbBuf0 (F := F) c tbM0_0) (fh0 : HbBuf0 (F := F) c hbM0_0) (y : S8x128.Idx) :
    ∃ pc ∈ (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.1, y ∈ pc.1.set :=
  View.cover_of_tiledL (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.1 S1x128.size (by sl_kernel_rfl) y

/-- The run's pieces for output 8 tile its block, so they cover it. -/
theorem cover0_8 (c : Dev nD) (i : grid0.Coords) (arg2 : Memref sig .tc .vmem S192x256 .bf16) (harg2 : arg2.IsWhole) (arg3 : Memref sig .tc .vmem S1024x128 .i32) (harg3 : arg3.IsWhole) (arg5 : Memref sig .tc .vmem S24x1024 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S96x1024 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S192x1024 .f32) (harg13 : arg13.IsWhole) (arg14 : Memref sig .tc .vmem S128x128 .i32) (harg14 : arg14.IsWhole)
    (x0 : Vec F S192x256 .bf16) (x1 : Vec F S1024x128 .i32) (x2 : Vec F S24x1024 .i32) (x3 : Vec F S8x128 .f32) (x4 : Vec F S8x128 .f32) (x5 : Vec F S8x128 .f32) (xt0 : TbBuf0 (F := F) c tbM0_0) (fh0 : HbBuf0 (F := F) c hbM0_0) (y : S8x128.Idx) :
    ∃ pc ∈ (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.2.1, y ∈ pc.1.set :=
  View.cover_of_tiledL (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.2.1 S1x128.size (by sl_kernel_rfl) y

/-- The run's pieces for output 9 tile its block, so they cover it. -/
theorem cover0_9 (c : Dev nD) (i : grid0.Coords) (arg2 : Memref sig .tc .vmem S192x256 .bf16) (harg2 : arg2.IsWhole) (arg3 : Memref sig .tc .vmem S1024x128 .i32) (harg3 : arg3.IsWhole) (arg5 : Memref sig .tc .vmem S24x1024 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S96x1024 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S192x1024 .f32) (harg13 : arg13.IsWhole) (arg14 : Memref sig .tc .vmem S128x128 .i32) (harg14 : arg14.IsWhole)
    (x0 : Vec F S192x256 .bf16) (x1 : Vec F S1024x128 .i32) (x2 : Vec F S24x1024 .i32) (x3 : Vec F S8x128 .f32) (x4 : Vec F S8x128 .f32) (x5 : Vec F S8x128 .f32) (xt0 : TbBuf0 (F := F) c tbM0_0) (fh0 : HbBuf0 (F := F) c hbM0_0) (y : S8x128.Idx) :
    ∃ pc ∈ (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.2.2.1, y ∈ pc.1.set :=
  View.cover_of_tiledL (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.2.2.1 S1x128.size (by sl_kernel_rfl) y

/-! ## What the outputs hold after each point -/

/-- The body's run at point `t`: at the point's staging memrefs and input blocks. -/
abbrev runAt (hO : Ok m) (c : Dev nD) (t : Fin (cfgM m hO).N) :=
  kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (tbl m 0) (V m c main_arg3)

/-- What output 6's staging buffer holds after point `t`: the run's pieces read back. -/
def out0_6 (hO : Ok m) (c : Dev nD) (t : Fin (cfgM m hO).N) : Vec F S96x1024 .i8 :=
  VO0_6.read (Elt F) (VO0_6.writes (Elt F) VO0_6.junk (runAt m hO c t).1)
/-- What output 7's staging buffer holds after point `t`: the run's pieces read back. -/
def out0_7 (hO : Ok m) (c : Dev nD) (t : Fin (cfgM m hO).N) : Vec F S8x128 .f32 :=
  VO0_7.read (Elt F) (VO0_7.writes (Elt F) VO0_7.junk (runAt m hO c t).2.1)
/-- What output 8's staging buffer holds after point `t`: the run's pieces read back. -/
def out0_8 (hO : Ok m) (c : Dev nD) (t : Fin (cfgM m hO).N) : Vec F S8x128 .f32 :=
  VO0_8.read (Elt F) (VO0_8.writes (Elt F) VO0_8.junk (runAt m hO c t).2.2.1)
/-- What output 9's staging buffer holds after point `t`: the run's pieces read back. -/
def out0_9 (hO : Ok m) (c : Dev nD) (t : Fin (cfgM m hO).N) : Vec F S8x128 .f32 :=
  VO0_9.read (Elt F) (VO0_9.writes (Elt F) VO0_9.junk (runAt m hO c t).2.2.2.1)

/-! ## The pipeline's proof data -/

/-- The proof data of the one pipeline on core `c`: the arrays as the region finds them; after the body at point `t`
    each input's buffer at its block and the outputs' at `out0_W`; the invariant is the library's for a body with
    transfers of its own, beside the tables' halves; nothing owed; full shares. -/
def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => out0_6 m hO c t
    | ⟨7, _⟩ => out0_7 m hO c t
    | ⟨8, _⟩ => out0_8 m hO c t
    | ⟨9, _⟩ => out0_9 m hO c t
  Φ _ := iprop(Pipeline.ΦD osem0 spec0 H0 (V m) c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = out0_6 m hO c t := by dsimp only [dats]; try rfl
theorem after0_7 (hO : Ok m) (c : Dev nD) (t : Fin (cfgM m hO).N) : (dats m hO 0 c).after 7 t = out0_7 m hO c t := by dsimp only [dats]; try rfl
theorem after0_8 (hO : Ok m) (c : Dev nD) (t : Fin (cfgM m hO).N) : (dats m hO 0 c).after 8 t = out0_8 m hO c t := by dsimp only [dats]; try rfl
theorem after0_9 (hO : Ok m) (c : Dev nD) (t : Fin (cfgM m hO).N) : (dats m hO 0 c).after 9 t = out0_9 m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before_of m hO (dats m hO 0 c) 0 (A_eq m hO c 0) (after0_0 m hO c) rfl (fun _ => rfl) (fun _ _ _ => rfl) (fun _ _ _ => rfl) t d
theorem before0_1 (hO : Ok m) (c : Dev nD) (t : Fin (cfgM m hO).N) (d) : (dats m hO 0 c).before 1 t d = iblk m hO c 1 t :=
  before_of m hO (dats m hO 0 c) 1 (A_eq m hO c 1) (after0_1 m hO c) rfl (fun _ => rfl) (fun _ _ _ => rfl) (fun _ _ _ => rfl) t d
theorem before0_2 (hO : Ok m) (c : Dev nD) (t : Fin (cfgM m hO).N) (d) : (dats m hO 0 c).before 2 t d = iblk m hO c 2 t :=
  before_of m hO (dats m hO 0 c) 2 (A_eq m hO c 2) (after0_2 m hO c) rfl (fun _ => rfl) (fun _ _ _ => rfl) (fun _ _ _ => rfl) t d
theorem before0_3 (hO : Ok m) (c : Dev nD) (t : Fin (cfgM m hO).N) (d) : (dats m hO 0 c).before 3 t d = iblk m hO c 3 t :=
  before_of m hO (dats m hO 0 c) 3 (A_eq m hO c 3) (after0_3 m hO c) rfl (fun _ => rfl) (fun _ _ _ => rfl) (fun _ _ _ => rfl) t d
theorem before0_4 (hO : Ok m) (c : Dev nD) (t : Fin (cfgM m hO).N) (d) : (dats m hO 0 c).before 4 t d = iblk m hO c 4 t :=
  before_of m hO (dats m hO 0 c) 4 (A_eq m hO c 4) (after0_4 m hO c) rfl (fun _ => rfl) (fun _ _ _ => rfl) (fun _ _ _ => rfl) t d
theorem before0_5 (hO : Ok m) (c : Dev nD) (t : Fin (cfgM m hO).N) (d) : (dats m hO 0 c).before 5 t d = iblk m hO c 5 t :=
  before_of m hO (dats m hO 0 c) 5 (A_eq m hO c 5) (after0_5 m hO c) rfl (fun _ => rfl) (fun _ _ _ => rfl) (fun _ _ _ => rfl) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t))

set_option maxHeartbeats 1200000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    after0_0, after0_1, after0_2, after0_3, after0_4, after0_5, after0_6, after0_7, after0_8, after0_9]
  rw [show (dats m hO 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hO 0 c).owed t.castSucc = 0 from rfl, show (dats m hO 0 c).owed t.succ = 0 from rfl]
  unfold out0_6 out0_7 out0_8 out0_9
  iintro ⟨⟨⟨⟨HS0, HS1⟩, Hg, Hq0, Hh0⟩, HT0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) (V m c main_arg3)).2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HT0]; · iexact HT0
  isplitl [Hq0]; · iexact Hq0
  isplitl [Hh0]; · iexact Hh0
  isplitl [HW]; · iexact HW
  iintro ⟨H0, H1, H2, H3, H4, H5, ⟨%e6, H6⟩, ⟨%e7, H7⟩, ⟨%e8, H8⟩, ⟨%e9, H9⟩, ⟨%fT0, HS0⟩, ⟨%fT1, HS1⟩, HT0, Hq0, Hh0, ⟨%W', HW'⟩⟩
  isplitl [HS0 HS1 Hg Hq0 Hh0 HT0]
  · isplitl [HS0 HS1 Hg Hq0 Hh0]
    · isplitl [HS0 HS1]
      · isplitl [HS0]
        · iexists _; unfold owns; iexists _; isplitr
          swap; · iexact HS0
          ipureintro; rfl
        iexists _; unfold owns; iexists _; isplitr
        swap; · iexact HS1
        ipureintro; rfl
      isplitl [Hg]
      · iexact Hg
      isplitl [Hq0]
      · iexact Hq0
      iexact Hh0
    iexact HT0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_6 c _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_7 c _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_8 c _ _ _ _ _ _ _ _ _ _ _ _ _ _ _ _ _ _ _ _ _ _ _ _ _ _ _ _ _ _ _ _ _)
  unfold owns; iexists _; isplitr
  swap; · iexact H9
  ipureintro; exact View.read_writes_of_cover _ _ _ _ _ (cover0_9 c _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun _ => .rfl) (hout := fun c => by change iprop(_ ∗ _) ⊢ _; iintro ⟨HD, -⟩; iexact HD)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.Kernel.Hand.facts, fun m ρ _ => Cert.Kernel.Hand.frame m ρ⟩`; here for every contents of the PREFETCHED TABLES, UNDER `Ok m` (the pipeline's side condition of
    them), which Proof.lean proves from the precondition: `⟨…, fun m ρ h => Cert.Kernel.Hand.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.Kernel.Hand

end
-- ==== Proof.Ideal.Kit.lean ====
/- The call's frame kit: what the host operations before the call leave, the prefetched table, the windows' blocks,
   the staging and scratch memrefs, and how the frame claim follows from a run. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- An array that no host operation before the region writes is found by the region as launched. -/
theorem V_of_not_written (c : Dev nD) (b : Ref sig .tc)
    (h : ∀ r ∈ ([main_v0, main_v1, main_v2, main_v3, main_v4, main_v5] : List (Ref sig .tc)), b ≠ r) :
    V m c b = m ((c : Thread nD τ).loc b) :=
  StableHlo.after_of_forall_not_mem (b := Proc.devRef .tc b) _ _ (List.forall_iff_forall_mem.mp (by
    simp only [List.forall_mem_cons] at h
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h0, h1, h2, h3, h4, h5, -⟩ := h
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S512 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not, for ANY proof
    data whose array is `V`'s (`hA`) and whose body leaves the block in place (`hafter`): the window is an input
    (`h₁`), never idle (`h₂`) and uncut (`h₃`). -/
theorem before_of (hO : Ok m) {c : Dev nD} (dat : Dat τ (Elt F) Unit ℕ (Pipeline.UD sig nD τ) ℕ (cfgM m hO) c) (w : Fin (cfgM m hO).W)
    (hA : dat.A w = V m c (Pipeline.arrRef spec0 w)) (hafter : ∀ t, dat.after w t = iblk m hO c w t)
    (h₁ : ((cfgM m hO).win w).isOut = false) (h₂ : ∀ i : (cfgM m hO).grid.Coords, (cfgM m hO).idle w i = false)
    (h₃ : ∀ t t' : Fin (cfgM m hO).N, ((cfgM m hO).win w).index t = ((cfgM m hO).win w).index t' →
      ((cfgM m hO).win w).clip ((cfgM m hO).grid.coords t) = ((cfgM m hO).win w).clip ((cfgM m hO).grid.coords t'))
    (h₄ : ∀ t (d : ((cfgM m hO).win w).block.Idx → Elt F ((cfgM m hO).win w).elt)
      (x : (((cfgM m hO).win w).xblock ((cfgM m hO).grid.coords t)).Idx → Elt F ((cfgM m hO).win w).elt), ((cfgM m hO).win w).fill ((cfgM m hO).grid.coords t) d x = x)
    (t : Fin (cfgM m hO).N) (d) : dat.before w t d = iblk m hO c w t :=
  (dat.before_in_eq_fetched w h₁ h₂ h₃ (fun t => by rw [hafter]; unfold Dat.blockOf iblk; rw [hA]; try rfl) t d).trans
    (by unfold Dat.fetched Dat.blockOf iblk; rw [hA]; exact h₄ t d _)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_update (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (Memref.whole main_arg3) (Memref.isWhole_whole _) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _) cc0_scratch2

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (Pipeline.UD sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_of_not_written m c main_arg0 (by decide)),
      ((h c).2 main_arg1 (by decide : main_arg1 ∈ Pipeline.restRefs sig spec0)).trans (V_of_not_written m c main_arg1 (by decide)),
      ((h c).1 1).trans (((dats 0 c).arrAt_in 1 rfl _).trans ((hA c 1).trans (V_of_not_written m c main_arg2 (by decide)))),
      ((h c).2 main_arg3 (by decide : main_arg3 ∈ Pipeline.restRefs sig spec0)).trans (V_of_not_written m c main_arg3 (by decide)),
      ((h c).1 2).trans (((dats 0 c).arrAt_in 2 rfl _).trans ((hA c 2).trans (V_of_not_written m c main_arg4 (by decide)))),
      ((h c).2 main_arg5 (by decide : main_arg5 ∈ Pipeline.restRefs sig spec0)).trans (V_of_not_written m c main_arg5 (by decide)),
      ((h c).2 main_arg6 (by decide : main_arg6 ∈ Pipeline.restRefs sig spec0)).trans (V_of_not_written m c main_arg6 (by decide)),
      ((h c).2 main_arg7 (by decide : main_arg7 ∈ Pipeline.restRefs sig spec0)).trans (V_of_not_written m c main_arg7 (by decide))⟩) h

/-! ## The kernel body on any staging memrefs: a subtype the run finds -/

/-- One staging buffer of output window 6, through which its contents are stated (`View.read_writes_of_cover`: the
    choice does not matter). -/
abbrev VO0_6 : View sig .tc .vmem S96x1024 .i8 := (Memref.whole cc0_stg6_0 : Memref sig .tc .vmem S96x1024 .i8).view
/-- One staging buffer of output window 7, through which its contents are stated (`View.read_writes_of_cover`: the
    choice does not matter). -/
abbrev VO0_7 : View sig .tc .vmem S8x128 .f32 := (Memref.whole cc0_stg7_0 : Memref sig .tc .vmem S8x128 .f32).view
/-- One staging buffer of output window 8, through which its contents are stated (`View.read_writes_of_cover`: the
    choice does not matter). -/
abbrev VO0_8 : View sig .tc .vmem S8x128 .f32 := (Memref.whole cc0_stg8_0 : Memref sig .tc .vmem S8x128 .f32).view
/-- One staging buffer of output window 9, through which its contents are stated (`View.read_writes_of_cover`: the
    choice does not matter). -/
abbrev VO0_9 : View sig .tc .vmem S8x128 .f32 := (Memref.whole cc0_stg9_0 : Memref sig .tc .vmem S8x128 .f32).view
/-- Each window's current staging memref at point `t`, spelled as the pipeline passes it (`bodyAt0`), and its wholeness. -/
abbrev ms0_0 (hO : Ok m) (t : Fin (cfgM m hO).N) : Memref sig .tc .vmem S192x256 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1024x128 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S24x1024 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S8x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S8x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S8x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S96x1024 .i8 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S8x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S8x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S8x128 .f32 := spec0_9.stage ((cfgM m hO).slots t 9)
abbrev hs0_9 (hO : Ok m) (t : Fin (cfgM m hO).N) : (ms0_9 m hO t).IsWhole := hstage0_9 (((cfgM m hO).slots t 9).cast nbuf0_9)
/-- The scratch operands: whole scoped buffers of the kernel's own, passed beside the windows. -/
abbrev scM0_0 : Memref sig .tc .vmem S192x1024 .f32 := Memref.whole cc0_scratch0
abbrev scM0_1 : Memref sig .tc .vmem S128x128 .i32 := Memref.whole cc0_scratch1
/-- The operands left in HBM that the body copies into scratch itself, whole. -/
abbrev hbM0_0 : Memref sig .tc .hbm S128x128 .i32 := Memref.whole main_arg3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 19] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 19) 0) := by
  rw [Pipeline.ownSems0_eq_of_list c osem0 [0] (by decide) (by decide)]; rfl
/-- The HBM operands the body moves, as references: unscoped, no window's array, no table (`Pipeline.restRefsP`). -/
def H0 : Finset (Ref sig .tc) := {main_arg3}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg3)) := by
  rw [BI.bigSep_eq_bigSepL_of_eq [main_arg3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 19) 0) ∗ iprop(hbPt0 c hbM0_0 (V m c main_arg3))) := by
  rw [Pipeline.ΦD_eq, scopedRest0_eq, ownSems00_eq, hbmPts0_eq]; simp only [scM0_0, scM0_1, owns_whole]; try rfl

end Cert.KernelIdeal.Hand

end
-- ==== Proof.Ideal.Loop.lean ====
module

public import proofs.«01_k».proof.Proof.Ideal.Kit

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One trip of the kernel's loop -/

section Loop

variable (c : Dev nD) (i : grid0.Coords) (arg3 : Memref sig .tc .vmem S1024x128 .i32) (arg13 : Memref sig .tc .vmem S192x1024 .f32) (arg14 : Memref sig .tc .vmem S128x128 .i32)
  (v1 : FVec F S192x256 .bf16) (f1 : Buf (Elt F) (arg3.view.loc (c : Thread nD τ))) (xt0 : TbBuf0 (F := F) c tbM0_0) (fh0 : HbBuf0 (F := F) c hbM0_0)

/-- The table's word a trip reads: how high the counts of that tile's byte pairs go. -/
def lvl (k : Fin k0_t1_loop.trips) : BitVec 32 :=
  View.readAt (Elt F) tbM0_0.view (Rect.unit (s := S512) (k0_off1 i k) S1.size (k0_off1_inb i k)).toLoadRect xt0
    (Shape.Idx.first (Nat.lt_of_lt_of_eq Nat.one_pos numel1_S1.symm))

/-- What a trip loads of the copied block of extra counts. -/
def extraLd : Vec F S128x128 .i32 :=
  arg14.view.readCov [⟨Rect.whole S128x128, ReadAs.same.apply (View.read (Elt F) (Memref.whole main_arg3).view fh0)⟩]
    (Rect.unit (s := S128x128) ![0, 0] S128x128.size inb_S128x128_S128x128_0_0).toLoadRect

/-- The accumulator after the first conditional of a trip: where the tile's word is above zero, the trip's columns have
    their product with the counts' low halves added. -/
def trip1 (k : Fin k0_t1_loop.trips) (G : Buf (Elt F) (arg13.view.loc (c : Thread nD τ))) : Buf (Elt F) (arg13.view.loc (c : Thread nD τ)) :=
  if hc : Scalar.cmpi .ne (Scalar.extui (Scalar.cmpi .sgt (lvl c i xt0 k) 0#32)) 0#32 = 1#1 then
    arg13.view.writes (Elt F) G [⟨Rect.unit (s := S192x1024) (k0_off3 k) S192x128.size (k0_off3_inb k),
      k0_pay10 v1 (arg3.view.readAt (Elt F) (Rect.unit (s := S1024x128) (k0_off2 k) S128x128.size (k0_off2_inb k)).toLoadRect f1)
        (arg13.view.readAt (Elt F) (Rect.unit (s := S192x1024) (k0_off3 k) S192x128.size (k0_off3_inb k)).toLoadRect G)⟩]
  else G

/-- The accumulator after a trip: where the tile's word is above one, the extra counts' product is added as well. -/
def trip2 (k : Fin k0_t1_loop.trips) (G : Buf (Elt F) (arg13.view.loc (c : Thread nD τ))) : Buf (Elt F) (arg13.view.loc (c : Thread nD τ)) :=
  if hc : Scalar.cmpi .ne (Scalar.extui (Scalar.cmpi .sgt (lvl c i xt0 k) 1#32)) 0#32 = 1#1 then
    arg13.view.writes (Elt F) (trip1 c i arg3 arg13 v1 f1 xt0 k G) [⟨Rect.unit (s := S192x1024) (k0_off4 k) S192x128.size (k0_off4_inb k),
      k0_pay11 v1 (extraLd c arg14 fh0)
        (arg13.view.readAt (Elt F) (Rect.unit (s := S192x1024) (k0_off4 k) S192x128.size (k0_off4_inb k)).toLoadRect (trip1 c i arg3 arg13 v1 f1 xt0 k G))⟩]
  else trip1 c i arg3 arg13 v1 f1 xt0 k G

/-- The accumulator before trip `k`, from what it holds when the loop is entered. -/
def gB (G0 : Buf (Elt F) (arg13.view.loc (c : Thread nD τ))) : ℕ → Buf (Elt F) (arg13.view.loc (c : Thread nD τ))
  | 0 => G0
  | k + 1 => if h : k < k0_t1_loop.trips then trip2 c i arg3 arg13 arg14 v1 f1 xt0 fh0 ⟨k, h⟩ (gB G0 k) else gB G0 k

/-- What a trip uses, the accumulator at `G`: the staged counts, the accumulator, the buffer of the extra counts, the
    table, the transfer's semaphore at zero, the extra counts' array, and the waits recorded. -/
abbrev Trip (G : Buf (Elt F) (arg13.view.loc (c : Thread nD τ))) : sProp 𝕄 :=
  iprop((arg3.view.loc (c : Thread nD τ) ↦[arg3.view.set]{fullShare} f1) ∗ (arg13.view.loc (c : Thread nD τ) ↦[arg13.view.set]{fullShare} G)
    ∗ (∃ f, arg14.view.loc (c : Thread nD τ) ↦[arg14.view.set]{fullShare} f)
    ∗ tbPt0 c tbM0_0 xt0 ∗ semVal ((c : Thread nD τ), SemLoc.dma 19) 0 ∗ hbPt0 c hbM0_0 fh0 ∗ (∃ W, owes (c : Thread nD τ) 0 W))

end Loop

/-- ONE TRIP of the loop takes the accumulator from `G` to `trip2 … G`. -/
theorem trip_run (c : Dev nD) (i : grid0.Coords) (arg2 : Memref sig .tc .vmem S192x256 .bf16) (harg2 : arg2.IsWhole) (arg3 : Memref sig .tc .vmem S1024x128 .i32) (harg3 : arg3.IsWhole) (arg5 : Memref sig .tc .vmem S24x1024 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S96x1024 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S192x1024 .f32) (harg13 : arg13.IsWhole) (arg14 : Memref sig .tc .vmem S128x128 .i32) (harg14 : arg14.IsWhole)
   (arg0 : BitVec 32) (v1 : FVec F S192x256 .bf16) (v74 : FVec F S128x128 .f32) (v76 : IVec S128x128 32)
   (f1 : Buf (Elt F) (arg3.view.loc (c : Thread nD τ))) (xt0 : TbBuf0 (F := F) c tbM0_0) (fh0 : HbBuf0 (F := F) c hbM0_0) (G : Buf (Elt F) (arg13.view.loc (c : Thread nD τ)))
   (k : Fin k0_t1_loop.trips) (u : Unit) :
    Trip c arg3 arg13 arg14 f1 xt0 fh0 G
     ⊢ wp frame (wpE (defs₀ (F := F)) Variants.none c none) Set.univ (k0_t1_body i tbM0_0 htbM0_0 arg2 harg2 arg3 harg3 (Memref.whole main_arg3) (Memref.isWhole_whole _) arg5 harg5 arg6 harg6 arg7 harg7 arg8 harg8 arg9 harg9 arg10 harg10 arg11 harg11 arg12 harg12 arg13 harg13 arg14 harg14 cc0_scratch2 arg0 v1 v74 v76 k u)
        (fun _ => Trip c arg3 arg13 arg14 f1 xt0 fh0 (trip2 c i arg3 arg13 arg14 v1 f1 xt0 fh0 k G)) := by
  unfold k0_t1_body
  simp only [k0_part1_eq_skeleton]; unfold k0_part1_skel
  iintro ⟨H1, HS0, ⟨%fs1, HS1⟩, HT0, Hq0, Hh0, ⟨%W, HW⟩⟩
  sl_exec
  sl_step
  isplitl [H1]; · iexact H1
  isplitl [HS0]; · iexact HS0
  isplitl [HS1]; · iexists _; iexact HS1
  isplitl [HT0]; · iexact HT0
  isplitl [Hq0]; · iexact Hq0
  isplitl [Hh0]; · iexact Hh0
  iexists _; iexact HW

set_option warn.classDefReducibility false in
/-- THE LOOP'S INVARIANT: before trip `k` the accumulator holds `gB … k`. -/
@[sl_loop] def loopInv_k0_t1 (c : Dev nD) (i : grid0.Coords) (arg2 : Memref sig .tc .vmem S192x256 .bf16) (harg2 : arg2.IsWhole) (arg3 : Memref sig .tc .vmem S1024x128 .i32) (harg3 : arg3.IsWhole) (arg5 : Memref sig .tc .vmem S24x1024 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S96x1024 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S192x1024 .f32) (harg13 : arg13.IsWhole) (arg14 : Memref sig .tc .vmem S128x128 .i32) (harg14 : arg14.IsWhole)
   (arg0 : BitVec 32) (v1 : FVec F S192x256 .bf16) (v74 : FVec F S128x128 .f32) (v76 : IVec S128x128 32)
   (f1 : Buf (Elt F) (arg3.view.loc (c : Thread nD τ))) (xt0 : TbBuf0 (F := F) c tbM0_0) (fh0 : HbBuf0 (F := F) c hbM0_0) (G0 : Buf (Elt F) (arg13.view.loc (c : Thread nD τ))) :
    LoopInvTy_k0_t1 (F := F) Unit ℕ (Pipeline.UD sig nD τ) ℕ Variants.none c none Set.univ i tbM0_0 htbM0_0 arg2 harg2 arg3 harg3 (Memref.whole main_arg3) (Memref.isWhole_whole _) arg5 harg5 arg6 harg6 arg7 harg7 arg8 harg8 arg9 harg9 arg10 harg10 arg11 harg11 arg12 harg12 arg13 harg13 arg14 harg14 cc0_scratch2 arg0 v1 v74 v76 where
  inv k _ := Trip c arg3 arg13 arg14 f1 xt0 fh0 (gB c i arg3 arg13 arg14 v1 f1 xt0 fh0 G0 k)
  step k u := by
    have e : gB c i arg3 arg13 arg14 v1 f1 xt0 fh0 G0 (k.val + 1) = trip2 c i arg3 arg13 arg14 v1 f1 xt0 fh0 k (gB c i arg3 arg13 arg14 v1 f1 xt0 fh0 G0 k) := by
      rw [gB, dif_pos k.isLt]
    rw [e]
    exact trip_run c i arg2 harg2 arg3 harg3 arg5 harg5 arg6 harg6 arg7 harg7 arg8 harg8 arg9 harg9 arg10 harg10 arg11 harg11 arg12 harg12 arg13 harg13 arg14 harg14 arg0 v1 v74 v76 f1 xt0 fh0 _ k u

end Cert.KernelIdeal.Hand

end
-- ==== Proof.Ideal.Run.lean ====
module

public import proofs.«01_k».proof.Proof.Ideal.Loop

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large: the definition's epilogue — `abstractNestedProofs` — walks it past the default budget)
set_option maxHeartbeats 1180000 in
/-- What the body's stores leave in each output's staging memref, as pieces (last first), with the proof that on whole
    staging memrefs the body runs to a state that has those pieces written: the inputs' memrefs as they were, the
    accumulator and the buffer of extra counts at some contents, the transfer's semaphore at zero again. The loop is
    gone through by its invariant. -/
noncomputable def kernelRun0_A (c : Dev nD) (i : grid0.Coords) (arg2 : Memref sig .tc .vmem S192x256 .bf16) (harg2 : arg2.IsWhole) (arg3 : Memref sig .tc .vmem S1024x128 .i32) (harg3 : arg3.IsWhole) (arg5 : Memref sig .tc .vmem S24x1024 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S96x1024 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S192x1024 .f32) (harg13 : arg13.IsWhole) (arg14 : Memref sig .tc .vmem S128x128 .i32) (harg14 : arg14.IsWhole)
    (x0 : Vec F S192x256 .bf16) (x1 : Vec F S1024x128 .i32) (x2 : Vec F S24x1024 .i32) (x3 : Vec F S8x128 .f32) (x4 : Vec F S8x128 .f32) (x5 : Vec F S8x128 .f32) (xt0 : TbBuf0 (F := F) c tbM0_0) (fh0 : HbBuf0 (F := F) c hbM0_0) :
    Σ' (L6 : List (View.Piece (Elt F) S96x1024 .i8)), Σ' (L7 : List (View.Piece (Elt F) S8x128 .f32)), Σ' (L8 : List (View.Piece (Elt F) S8x128 .f32)), { L9 : List (View.Piece (Elt F) S8x128 .f32) //
      ∀ (W : Waits sig Unit) (K : PUnit → sProp 𝕄),
        iprop(owns (c : Thread nD τ) arg2 fullShare x0 ∗ owns (c : Thread nD τ) arg3 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0 ∗ semVal ((c : Thread nD τ), SemLoc.dma 19) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} f) ∗ (∃ f, arg14.view.loc (c : Thread nD τ) ↦[arg14.view.set]{fullShare} f) ∗ tbPt0 c tbM0_0 xt0 ∗ semVal ((c : Thread nD τ), SemLoc.dma 19) 0 ∗ hbPt0 c hbM0_0 fh0 ∗ (∃ W', owes (c : Thread nD τ) 0 W')) -∗ K ⟨⟩))
          ⊢ wp frame (wpE (defs₀ (F := F)) Variants.none c none) Set.univ (cc0_update i tbM0_0 htbM0_0 arg2 harg2 arg3 harg3 (Memref.whole main_arg3) (Memref.isWhole_whole _) arg5 harg5 arg6 harg6 arg7 harg7 arg8 harg8 arg9 harg9 arg10 harg10 arg11 harg11 arg12 harg12 arg13 harg13 arg14 harg14 cc0_scratch2) K } := by
  refine ⟨?_, ?_, ?_, ?_, fun W K => ?run⟩
  case run =>
    simp only [cc0_update_eq_skeleton]; unfold cc0_update_skel
    simp only [k0_part48_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, HT0, Hq0, Hh0, HW, Hk⟩
    obtain rfl := harg2.eq_unread hf0; obtain rfl := harg3.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HT0]; · iexact HT0
    isplitl [Hq0]; · iexact Hq0
    isplitl [Hh0]; · iexact Hh0
    iexists _; iexact HW

end Cert.KernelIdeal.Hand

end
-- ==== Proof.Ideal.Frame.lean ====
module

public import proofs.«01_k».proof.Proof.Ideal.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The run's pieces for output 6 tile its block, so they cover it. -/
theorem cover0_6 (c : Dev nD) (i : grid0.Coords) (arg2 : Memref sig .tc .vmem S192x256 .bf16) (harg2 : arg2.IsWhole) (arg3 : Memref sig .tc .vmem S1024x128 .i32) (harg3 : arg3.IsWhole) (arg5 : Memref sig .tc .vmem S24x1024 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S96x1024 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S192x1024 .f32) (harg13 : arg13.IsWhole) (arg14 : Memref sig .tc .vmem S128x128 .i32) (harg14 : arg14.IsWhole)
    (x0 : Vec F S192x256 .bf16) (x1 : Vec F S1024x128 .i32) (x2 : Vec F S24x1024 .i32) (x3 : Vec F S8x128 .f32) (x4 : Vec F S8x128 .f32) (x5 : Vec F S8x128 .f32) (xt0 : TbBuf0 (F := F) c tbM0_0) (fh0 : HbBuf0 (F := F) c hbM0_0) (y : S96x1024.Idx) :
    ∃ pc ∈ (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).1, y ∈ pc.1.set :=
  View.cover_of_tiledL (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).1 S96x128.size (by sl_kernel_rfl) y

/-- The run's pieces for output 7 tile its block, so they cover it. -/
theorem cover0_7 (c : Dev nD) (i : grid0.Coords) (arg2 : Memref sig .tc .vmem S192x256 .bf16) (harg2 : arg2.IsWhole) (arg3 : Memref sig .tc .vmem S1024x128 .i32) (harg3 : arg3.IsWhole) (arg5 : Memref sig .tc .vmem S24x1024 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S96x1024 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S192x1024 .f32) (harg13 : arg13.IsWhole) (arg14 : Memref sig .tc .vmem S128x128 .i32) (harg14 : arg14.IsWhole)
    (x0 : Vec F S192x256 .bf16) (x1 : Vec F S1024x128 .i32) (x2 : Vec F S24x1024 .i32) (x3 : Vec F S8x128 .f32) (x4 : Vec F S8x128 .f32) (x5 : Vec F S8x128 .f32) (xt0 : TbBuf0 (F := F) c tbM0_0) (fh0 : HbBuf0 (F := F) c hbM0_0) (y : S8x128.Idx) :
    ∃ pc ∈ (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.1, y ∈ pc.1.set :=
  View.cover_of_tiledL (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.1 S1x128.size (by sl_kernel_rfl) y

/-- The run's pieces for output 8 tile its block, so they cover it. -/
theorem cover0_8 (c : Dev nD) (i : grid0.Coords) (arg2 : Memref sig .tc .vmem S192x256 .bf16) (harg2 : arg2.IsWhole) (arg3 : Memref sig .tc .vmem S1024x128 .i32) (harg3 : arg3.IsWhole) (arg5 : Memref sig .tc .vmem S24x1024 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S96x1024 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S192x1024 .f32) (harg13 : arg13.IsWhole) (arg14 : Memref sig .tc .vmem S128x128 .i32) (harg14 : arg14.IsWhole)
    (x0 : Vec F S192x256 .bf16) (x1 : Vec F S1024x128 .i32) (x2 : Vec F S24x1024 .i32) (x3 : Vec F S8x128 .f32) (x4 : Vec F S8x128 .f32) (x5 : Vec F S8x128 .f32) (xt0 : TbBuf0 (F := F) c tbM0_0) (fh0 : HbBuf0 (F := F) c hbM0_0) (y : S8x128.Idx) :
    ∃ pc ∈ (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.2.1, y ∈ pc.1.set :=
  View.cover_of_tiledL (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.2.1 S1x128.size (by sl_kernel_rfl) y

/-- The run's pieces for output 9 tile its block, so they cover it. -/
theorem cover0_9 (c : Dev nD) (i : grid0.Coords) (arg2 : Memref sig .tc .vmem S192x256 .bf16) (harg2 : arg2.IsWhole) (arg3 : Memref sig .tc .vmem S1024x128 .i32) (harg3 : arg3.IsWhole) (arg5 : Memref sig .tc .vmem S24x1024 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S96x1024 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S192x1024 .f32) (harg13 : arg13.IsWhole) (arg14 : Memref sig .tc .vmem S128x128 .i32) (harg14 : arg14.IsWhole)
    (x0 : Vec F S192x256 .bf16) (x1 : Vec F S1024x128 .i32) (x2 : Vec F S24x1024 .i32) (x3 : Vec F S8x128 .f32) (x4 : Vec F S8x128 .f32) (x5 : Vec F S8x128 .f32) (xt0 : TbBuf0 (F := F) c tbM0_0) (fh0 : HbBuf0 (F := F) c hbM0_0) (y : S8x128.Idx) :
    ∃ pc ∈ (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.2.2.1, y ∈ pc.1.set :=
  View.cover_of_tiledL (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.2.2.1 S1x128.size (by sl_kernel_rfl) y

/-! ## What the outputs hold after each point -/

/-- The body's run at point `t`: at the point's staging memrefs and input blocks. -/
abbrev runAt (hO : Ok m) (c : Dev nD) (t : Fin (cfgM m hO).N) :=
  kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (tbl m 0) (V m c main_arg3)

/-- What output 6's staging buffer holds after point `t`: the run's pieces read back. -/
def out0_6 (hO : Ok m) (c : Dev nD) (t : Fin (cfgM m hO).N) : Vec F S96x1024 .i8 :=
  VO0_6.read (Elt F) (VO0_6.writes (Elt F) VO0_6.junk (runAt m hO c t).1)
/-- What output 7's staging buffer holds after point `t`: the run's pieces read back. -/
def out0_7 (hO : Ok m) (c : Dev nD) (t : Fin (cfgM m hO).N) : Vec F S8x128 .f32 :=
  VO0_7.read (Elt F) (VO0_7.writes (Elt F) VO0_7.junk (runAt m hO c t).2.1)
/-- What output 8's staging buffer holds after point `t`: the run's pieces read back. -/
def out0_8 (hO : Ok m) (c : Dev nD) (t : Fin (cfgM m hO).N) : Vec F S8x128 .f32 :=
  VO0_8.read (Elt F) (VO0_8.writes (Elt F) VO0_8.junk (runAt m hO c t).2.2.1)
/-- What output 9's staging buffer holds after point `t`: the run's pieces read back. -/
def out0_9 (hO : Ok m) (c : Dev nD) (t : Fin (cfgM m hO).N) : Vec F S8x128 .f32 :=
  VO0_9.read (Elt F) (VO0_9.writes (Elt F) VO0_9.junk (runAt m hO c t).2.2.2.1)

/-! ## The pipeline's proof data -/

/-- The proof data of the one pipeline on core `c`: the arrays as the region finds them; after the body at point `t`
    each input's buffer at its block and the outputs' at `out0_W`; the invariant is the library's for a body with
    transfers of its own, beside the tables' halves; nothing owed; full shares. -/
def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => out0_6 m hO c t
    | ⟨7, _⟩ => out0_7 m hO c t
    | ⟨8, _⟩ => out0_8 m hO c t
    | ⟨9, _⟩ => out0_9 m hO c t
  Φ _ := iprop(Pipeline.ΦD osem0 spec0 H0 (V m) c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = out0_6 m hO c t := by dsimp only [dats]; try rfl
theorem after0_7 (hO : Ok m) (c : Dev nD) (t : Fin (cfgM m hO).N) : (dats m hO 0 c).after 7 t = out0_7 m hO c t := by dsimp only [dats]; try rfl
theorem after0_8 (hO : Ok m) (c : Dev nD) (t : Fin (cfgM m hO).N) : (dats m hO 0 c).after 8 t = out0_8 m hO c t := by dsimp only [dats]; try rfl
theorem after0_9 (hO : Ok m) (c : Dev nD) (t : Fin (cfgM m hO).N) : (dats m hO 0 c).after 9 t = out0_9 m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before_of m hO (dats m hO 0 c) 0 (A_eq m hO c 0) (after0_0 m hO c) rfl (fun _ => rfl) (fun _ _ _ => rfl) (fun _ _ _ => rfl) t d
theorem before0_1 (hO : Ok m) (c : Dev nD) (t : Fin (cfgM m hO).N) (d) : (dats m hO 0 c).before 1 t d = iblk m hO c 1 t :=
  before_of m hO (dats m hO 0 c) 1 (A_eq m hO c 1) (after0_1 m hO c) rfl (fun _ => rfl) (fun _ _ _ => rfl) (fun _ _ _ => rfl) t d
theorem before0_2 (hO : Ok m) (c : Dev nD) (t : Fin (cfgM m hO).N) (d) : (dats m hO 0 c).before 2 t d = iblk m hO c 2 t :=
  before_of m hO (dats m hO 0 c) 2 (A_eq m hO c 2) (after0_2 m hO c) rfl (fun _ => rfl) (fun _ _ _ => rfl) (fun _ _ _ => rfl) t d
theorem before0_3 (hO : Ok m) (c : Dev nD) (t : Fin (cfgM m hO).N) (d) : (dats m hO 0 c).before 3 t d = iblk m hO c 3 t :=
  before_of m hO (dats m hO 0 c) 3 (A_eq m hO c 3) (after0_3 m hO c) rfl (fun _ => rfl) (fun _ _ _ => rfl) (fun _ _ _ => rfl) t d
theorem before0_4 (hO : Ok m) (c : Dev nD) (t : Fin (cfgM m hO).N) (d) : (dats m hO 0 c).before 4 t d = iblk m hO c 4 t :=
  before_of m hO (dats m hO 0 c) 4 (A_eq m hO c 4) (after0_4 m hO c) rfl (fun _ => rfl) (fun _ _ _ => rfl) (fun _ _ _ => rfl) t d
theorem before0_5 (hO : Ok m) (c : Dev nD) (t : Fin (cfgM m hO).N) (d) : (dats m hO 0 c).before 5 t d = iblk m hO c 5 t :=
  before_of m hO (dats m hO 0 c) 5 (A_eq m hO c 5) (after0_5 m hO c) rfl (fun _ => rfl) (fun _ _ _ => rfl) (fun _ _ _ => rfl) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t))

set_option maxHeartbeats 1200000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    after0_0, after0_1, after0_2, after0_3, after0_4, after0_5, after0_6, after0_7, after0_8, after0_9]
  rw [show (dats m hO 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hO 0 c).owed t.castSucc = 0 from rfl, show (dats m hO 0 c).owed t.succ = 0 from rfl]
  unfold out0_6 out0_7 out0_8 out0_9
  iintro ⟨⟨⟨⟨HS0, HS1⟩, Hg, Hq0, Hh0⟩, HT0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) (V m c main_arg3)).2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HT0]; · iexact HT0
  isplitl [Hq0]; · iexact Hq0
  isplitl [Hh0]; · iexact Hh0
  isplitl [HW]; · iexact HW
  iintro ⟨H0, H1, H2, H3, H4, H5, ⟨%e6, H6⟩, ⟨%e7, H7⟩, ⟨%e8, H8⟩, ⟨%e9, H9⟩, ⟨%fT0, HS0⟩, ⟨%fT1, HS1⟩, HT0, Hq0, Hh0, ⟨%W', HW'⟩⟩
  isplitl [HS0 HS1 Hg Hq0 Hh0 HT0]
  · isplitl [HS0 HS1 Hg Hq0 Hh0]
    · isplitl [HS0 HS1]
      · isplitl [HS0]
        · iexists _; unfold owns; iexists _; isplitr
          swap; · iexact HS0
          ipureintro; rfl
        iexists _; unfold owns; iexists _; isplitr
        swap; · iexact HS1
        ipureintro; rfl
      isplitl [Hg]
      · iexact Hg
      isplitl [Hq0]
      · iexact Hq0
      iexact Hh0
    iexact HT0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_6 c _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_7 c _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_8 c _ _ _ _ _ _ _ _ _ _ _ _ _ _ _ _ _ _ _ _ _ _ _ _ _ _ _ _ _ _ _ _ _)
  unfold owns; iexists _; isplitr
  swap; · iexact H9
  ipureintro; exact View.read_writes_of_cover _ _ _ _ _ (cover0_9 c _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun _ => .rfl) (hout := fun c => by change iprop(_ ∗ _) ⊢ _; iintro ⟨HD, -⟩; iexact HD)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Hand.facts, fun m ρ _ => Cert.KernelIdeal.Hand.frame m ρ⟩`; here for every contents of the PREFETCHED TABLES, UNDER `Ok m` (the pipeline's side condition of
    them), which Proof.lean proves from the precondition: `⟨…, fun m ρ h => Cert.KernelIdeal.Hand.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.KernelIdeal.Hand

end
-- ==== Proof.Spec.lean ====
/- One embedding row's update over the extended reals: the momentum, the updated weights, the row's new bias and scale and
   its 4-bit codes, and the scalar laws the two programs' ways of writing it differ by. No program is named here. -/
module

public import Idealize.ShloMosaic.PureOps.Ideal
public import Idealize.ShloMosaic.Lib.IdealHost

@[expose] public section

noncomputable section

namespace Cert.RowUpdate

open Idealize.ShloMosaic
open scoped BigOperators

/-! ## The constants -/

/-- The constant added to the root of the momentum. -/
def kEps : EReal := Ideal.ofBits .f32 0x322BCC77#32
/-- The learning rate. -/
def kLr : EReal := Ideal.ofBits .f32 0x3DCCCCCD#32
/-- The number of a row's weights. -/
def kLen : EReal := Ideal.ofBits .f32 0x43400000#32
/-- The largest code. -/
def kMax : EReal := Ideal.ofBits .f32 0x41700000#32
/-- What a minimum starts from. -/
def kTop : EReal := Ideal.ofBits .f32 0x7F800000#32
/-- What a maximum starts from. -/
def kBot : EReal := Ideal.ofBits .f32 0xFF800000#32

/-- The largest code is fifteen. -/
theorem kMax_eq : kMax = ((15 : ℝ) : EReal) := by
  simp [kMax, Ideal.ofBits, Ideal.ieee, -EReal.coe_mul]; norm_num

/-- The constant added to the root is a positive real. -/
theorem kEps_pos : ∃ r : ℝ, 0 < r ∧ kEps = (r : EReal) := by
  refine ⟨_, ?_, by simp [kEps, Ideal.ofBits, Ideal.ieee, -EReal.coe_mul]; rfl⟩
  norm_num

/-! ## The row -/

/-- Nibble `m` of a word of codes. -/
def nib (w : BitVec 32) (m : ℕ) : BitVec 32 := (w.sshiftRight (4 * m)) &&& 15#32

section Row

variable (G : Fin 192 → EReal) (sc bi mo : EReal) (word : Fin 24 → BitVec 32)

/-- The row's new momentum: the mean square of its gradient is added. -/
def mom : EReal := mo + Ideal.div (∑ d, G d * G d) kLen
/-- What the step is divided by. -/
def den : EReal := Ideal.sqrt (mom G mo) + kEps
/-- Weight `d` after the step. -/
def wNew (d : Fin 192) : EReal :=
  (((nib (word ⟨d.val / 8, by omega⟩) (d.val % 8)).toInt : ℝ) : EReal) * sc + bi - Ideal.div (kLr * G d) (den G mo)
/-- The least weight: the row's new bias. -/
def rMin : EReal := Finset.univ.fold min kTop (wNew G sc bi mo word)
/-- The greatest weight. -/
def rMax : EReal := Finset.univ.fold max kBot (wNew G sc bi mo word)
/-- The row's new scale. -/
def scale : EReal :=
  if rMax G sc bi mo word = rMin G sc bi mo word then 1 else Ideal.div (rMax G sc bi mo word - rMin G sc bi mo word) kMax
/-- Code `d` of the row. -/
def code (d : Fin 192) : BitVec 32 :=
  Ideal.fptosi 32 (min kMax (max 0 (Ideal.liftRound Ideal.roundHalfEven
    (Ideal.div (wNew G sc bi mo word d - rMin G sc bi mo word) (scale G sc bi mo word)))))
/-- Byte `b` of the row: two codes. -/
def byte (b : Fin 96) : BitVec 8 :=
  BitVec.setWidth 8 (code G sc bi mo word ⟨2 * b.val, by omega⟩ + 16#32 * code G sc bi mo word ⟨2 * b.val + 1, by omega⟩)

end Row

/-! ## The laws -/

theorem sqrt_cases (x : EReal) : Ideal.sqrt x = ⊥ ∨ 0 ≤ Ideal.sqrt x := by
  induction x with
  | bot => exact .inl rfl
  | top => exact .inr le_top
  | coe r =>
    show (if r < 0 then (⊥ : EReal) else (Real.sqrt r : EReal)) = ⊥ ∨ (0 : EReal) ≤ if r < 0 then (⊥ : EReal) else (Real.sqrt r : EReal)
    split
    · exact .inl rfl
    · exact .inr (EReal.coe_nonneg.mpr (Real.sqrt_nonneg r))

/-- What the step is divided by is never zero. -/
theorem den_ne (G : Fin 192 → EReal) (mo : EReal) : den G mo ≠ 0 := by
  obtain ⟨r, hr, he⟩ := kEps_pos
  unfold den
  rcases sqrt_cases (mom G mo) with h | h
  · rw [h, he]; simp
  · rw [he]
    have : (0 : EReal) < Ideal.sqrt (mom G mo) + (r : EReal) :=
      lt_of_lt_of_le (EReal.coe_pos.mpr hr) (le_add_of_nonneg_left h)
    exact this.ne'

/-- A quotient by what is not zero is a product with the inverse. -/
theorem div_of_ne {y : EReal} (h : y ≠ 0) (x : EReal) : Ideal.div x y = x * y⁻¹ := by
  unfold Ideal.div; rw [if_neg h]

/-- The gradient times the rate over the root is the rate times the gradient, over the root. -/
theorem mul_rate {y : EReal} (h : y ≠ 0) (g k : EReal) : g * Ideal.div k y = Ideal.div (k * g) y := by
  rw [div_of_ne h, div_of_ne h, mul_comm k g, mul_assoc]

/-- A product with the reciprocal is the quotient. -/
theorem mul_recip {y : EReal} (h : y ≠ 0) (x : EReal) : x * Ideal.div 1 y = Ideal.div x y := by
  rw [div_of_ne h, div_of_ne h, one_mul]

theorem sub_ne_zero_of_ne {a b : EReal} (h : a ≠ b) : a - b ≠ 0 := by
  induction a with
  | bot => induction b with
    | bot => exact absurd rfl h
    | top => simp
    | coe y => simp
  | top => induction b with
    | bot => simp
    | top => exact absurd rfl h
    | coe y => simp
  | coe x => induction b with
    | bot => simp
    | top => simp
    | coe y =>
      rw [← EReal.coe_sub]
      intro e
      exact h (congrArg _ (sub_eq_zero.mp (EReal.coe_eq_zero.mp e)))

/-- A scale so formed is never zero. -/
theorem scaleOf_ne (a b : EReal) : (if a = b then 1 else Ideal.div (a - b) kMax) ≠ 0 := by
  split
  · exact one_ne_zero
  · rename_i h
    rw [div_of_ne (by rw [kMax_eq]; exact_mod_cast (by norm_num : (15 : ℝ) ≠ 0)), kMax_eq, ← EReal.coe_inv]
    refine mul_ne_zero (sub_ne_zero_of_ne h) ?_
    exact_mod_cast (by norm_num : (15 : ℝ)⁻¹ ≠ 0)

theorem scale_ne (G : Fin 192 → EReal) (sc bi mo : EReal) (word : Fin 24 → BitVec 32) : scale G sc bi mo word ≠ 0 :=
  scaleOf_ne _ _

/-- A value clipped between nought and fifteen converts to an integer below sixteen. -/
theorem clip_lt (y : EReal) : (Ideal.fptosi 32 (min kMax (max 0 y))).toNat < 16 := by
  have h1 : min kMax (max 0 y) ≤ ((15 : ℝ) : EReal) := by rw [kMax_eq]; exact min_le_left _ _
  have h0 : (0 : EReal) ≤ min kMax (max 0 y) := by
    rw [kMax_eq]; exact le_min (by exact_mod_cast (by norm_num : (0 : ℝ) ≤ 15)) (le_max_left _ _)
  generalize min kMax (max 0 y) = z at h0 h1
  induction z with
  | bot => simp at h0
  | top => exact absurd h1 (by simp)
  | coe r =>
    have hr0 : 0 ≤ r := by exact_mod_cast h0
    have hr1 : r ≤ 15 := by exact_mod_cast h1
    have hf0 : 0 ≤ ⌊r⌋ := Int.floor_nonneg.mpr hr0
    have hf1 : ⌊r⌋ ≤ 15 := by
      have := (Int.floor_le r).trans hr1
      exact_mod_cast this
    show (BitVec.ofInt 32 (max (-((2 ^ 31 : ℕ) : ℤ)) (min (((2 ^ 31 : ℕ) : ℤ) - 1) (if 0 ≤ r then ⌊r⌋ else ⌈r⌉)))).toNat < 16
    rw [if_pos hr0, min_eq_right (by norm_num; omega), max_eq_right (by norm_num; omega), BitVec.toNat_ofInt]
    omega

end Cert.RowUpdate

end
-- ==== Proof.RowGrad.lean ====
/- The gradient of a row, from the bags' gradients and the row's occurrence counts; it names no program. -/
module

public import Mathlib.Data.EReal.Operations
public import Mathlib.Algebra.BigOperators.Fin

@[expose] public section

noncomputable section

namespace Cert.RowUpdate

open scoped BigOperators

/-- The counts in a row's packed words, the even bag of every pair first and then the odd one: the low sixteen bits of a
    pair's word count the even bag, the high sixteen the odd one. -/
def half (w : Fin 128 → BitVec 32) (β : Fin 256) : EReal :=
  if h : β.val < 128 then (((w ⟨β.val, h⟩ &&& 65535#32).toInt : ℝ) : EReal) else (((w ⟨β.val - 128, by omega⟩ >>> 16).toInt : ℝ) : EReal)

/-- A count is a natural number. -/
theorem half_nat (w : Fin 128 → BitVec 32) (β : Fin 256) : ∃ n : ℕ, half w β = ((n : ℝ) : EReal) := by
  unfold half
  split
  · rename_i h
    refine ⟨(w ⟨β.val, h⟩ &&& 65535#32).toNat, ?_⟩
    have hl : (w ⟨β.val, h⟩ &&& 65535#32).toNat < 2 ^ 31 := by
      rw [BitVec.toNat_and]; exact lt_of_le_of_lt Nat.and_le_right (by decide)
    rw [BitVec.toInt_eq_toNat_of_lt (by omega)]
    simp
  · refine ⟨(w ⟨β.val - 128, by omega⟩ >>> 16).toNat, ?_⟩
    have hl : (w ⟨β.val - 128, by omega⟩ >>> 16).toNat < 2 ^ 31 := by
      rw [BitVec.toNat_ushiftRight, Nat.shiftRight_eq_div_pow]
      have := (w ⟨β.val - 128, by omega⟩).isLt
      omega
    rw [BitVec.toInt_eq_toNat_of_lt (by omega)]
    rw [Int.cast_natCast]

theorem half_sub (w : Fin 128 → BitVec 32) (β : Fin 256) : half w β - half w β = 0 := by
  obtain ⟨n, hn⟩ := half_nat w β
  rw [hn, ← EReal.coe_sub, sub_self, EReal.coe_zero]

theorem half_nonneg (w : Fin 128 → BitVec 32) (β : Fin 256) : 0 ≤ half w β := by
  obtain ⟨n, hn⟩ := half_nat w β
  rw [hn]; exact EReal.coe_nonneg.mpr (Nat.cast_nonneg n)

/-- Bag number `β` of the order "even bags, then odd bags" is this bag of the pairs' own order. -/
def bag (β : Fin 256) : Fin 256 := ⟨2 * (β.val % 128) + β.val / 128, by omega⟩
/-- and back. -/
def unbag (b : Fin 256) : Fin 256 := ⟨128 * (b.val % 2) + b.val / 2, by omega⟩

/-- The two orders of the bags hold the same bags. -/
def bags : Fin 256 ≃ Fin 256 where
  toFun := bag
  invFun := unbag
  left_inv β := Fin.ext (by show 128 * ((2 * (β.val % 128) + β.val / 128) % 2) + (2 * (β.val % 128) + β.val / 128) / 2 = β.val; omega)
  right_inv b := Fin.ext (by show 2 * ((128 * (b.val % 2) + b.val / 2) % 128) + (128 * (b.val % 2) + b.val / 2) / 128 = b.val; omega)

/-- The gradient of a row: every bag's gradient as often as the row occurs in the bag — the counts `cnt`, and where the
    row's tile says so (`lvl` above one) the counts `ex` on top. -/
def rowGrad (grad : Fin 256 → Fin 192 → EReal) (cnt ex : Fin 128 → BitVec 32) (lvl : BitVec 32) (d : Fin 192) : EReal :=
  ∑ b : Fin 256, (half cnt (unbag b) + if (1#32).slt lvl = true then half ex (unbag b) else 0) * grad b d

/-- The same with the two counts' products added apart, over the bags in the other order. -/
theorem rowGrad_eq (grad : Fin 256 → Fin 192 → EReal) (cnt ex : Fin 128 → BitVec 32) (lvl : BitVec 32) (d : Fin 192) :
    rowGrad grad cnt ex lvl d = (∑ β : Fin 256, grad (bag β) d * half cnt β) + if (1#32).slt lvl = true then ∑ β : Fin 256, grad (bag β) d * half ex β else 0 := by
  unfold rowGrad
  rw [← Equiv.sum_comp bags]
  have hu : ∀ β, unbag (bags β) = β := bags.left_inv
  simp only [hu]
  show ∑ β, _ * grad (bag β) d = _
  split
  · rw [← Finset.sum_add_distrib]
    refine Finset.sum_congr rfl fun β _ => ?_
    rw [EReal.right_distrib_of_nonneg (half_nonneg _ _) (half_nonneg _ _), EReal.mul_comm, EReal.mul_comm (half ex β)]
  · rw [add_zero]
    refine Finset.sum_congr rfl fun β _ => ?_
    rw [add_zero, EReal.mul_comm]

end Cert.RowUpdate

end
-- ==== Proof.Nibbles.lean ====
/- Nibbles, bytes and words: eight codes below sixteen packed in a word, and the word's bytes. -/
module

public import Idealize.ShloMosaic.PureOps.Ideal
public import Idealize.ShloMosaic.Lib.BitcastPair
public import Idealize.ShloMosaic.Lib.Pointwise.Index

@[expose] public section

namespace Cert.Nibbles

open Idealize.ShloMosaic

/-- An arithmetic shift by an amount below the width is the shift by that number. -/
theorem shrsi_lt (u : ArithUnit) (x : BitVec 32) (y : BitVec 32) (h : y.toNat < 32) : IntOp.shrsi u x y = x.sshiftRight y.toNat := by
  unfold IntOp.shrsi; rw [if_pos h]; rfl

/-- A left shift by an amount below the width is the shift by that number. -/
theorem shli_lt (u : ArithUnit) (x : BitVec 32) (y : BitVec 32) (h : y.toNat < 32) : IntOp.shli u x y = x <<< y.toNat := by
  unfold IntOp.shli; rw [if_pos h]; rfl

/-- A word below sixteen is a nibble widened. -/
theorem exists_nibble (c : BitVec 32) (h : c.toNat < 16) : ∃ x : BitVec 4, c = x.setWidth 32 := by
  refine ⟨c.setWidth 4, BitVec.eq_of_toNat_eq ?_⟩
  rw [BitVec.toNat_setWidth, BitVec.toNat_setWidth]
  omega

/-- Two nibbles added with weights one and sixteen are one byte. -/
theorem pair_byte : ∀ x y : BitVec 4, BitVec.setWidth 8 (x.setWidth 32 + 16#32 * y.setWidth 32) = y ++ x := by decide

/-- A word of eight nibbles. -/
def packed (c : Fin 8 → BitVec 32) : BitVec 32 :=
  (((((((c 0 <<< 0) ||| (c 1 <<< 4)) ||| (c 2 <<< 8)) ||| (c 3 <<< 12)) ||| (c 4 <<< 16)) ||| (c 5 <<< 20)) ||| (c 6 <<< 24)) ||| (c 7 <<< 28)

/-- A byte of a word of eight nibbles is two of them. -/
theorem packed_byte (c : Fin 8 → BitVec 32) (h : ∀ m, (c m).toNat < 16) (b : Fin 4) :
    (packed c).extractLsb' (8 * b.val) 8
      = BitVec.setWidth 8 (c ⟨2 * b.val, by omega⟩ + 16#32 * c ⟨2 * b.val + 1, by omega⟩) := by
  choose x hx using fun m => exists_nibble (c m) (h m)
  obtain rfl : c = fun m => (x m).setWidth 32 := funext hx
  rw [pair_byte]
  refine BitVec.eq_of_getLsbD_eq fun i hi => ?_
  rw [BitVec.getLsbD_append]
  fin_cases b <;> interval_cases i <;> simp [packed, BitVec.getLsbD_setWidth, BitVec.getLsbD_extractLsb', BitVec.getLsbD_shiftLeft, BitVec.getLsbD_or]

/-- The nibbles of a word's byte are the word's: the low one, -/
theorem byte_low (w : BitVec 32) (b : Fin 4) :
    ((w.sshiftRight (8 * b.val)) &&& 255#32) &&& 15#32 = (w.sshiftRight (4 * (2 * b.val))) &&& 15#32 := by
  rw [BitVec.and_assoc, show 4 * (2 * b.val) = 8 * b.val by omega, show (255#32 &&& 15#32 : BitVec 32) = 15#32 from rfl]

/-- and the high one. -/
theorem byte_high (w : BitVec 32) (b : Fin 4) :
    ((w.sshiftRight (8 * b.val)) &&& 255#32).sshiftRight 4 = (w.sshiftRight (4 * (2 * b.val + 1))) &&& 15#32 := by
  refine BitVec.eq_of_getLsbD_eq fun i hi => ?_
  rw [show 4 * (2 * b.val + 1) = 8 * b.val + 4 by omega]
  have hm : ((w.sshiftRight (8 * b.val)) &&& 255#32).msb = false := by
    rw [BitVec.msb_and, show (255#32 : BitVec 32).msb = false from rfl, Bool.and_false]
  rw [BitVec.getLsbD_sshiftRight, hm, BitVec.getLsbD_and, BitVec.getLsbD_and, BitVec.getLsbD_sshiftRight, BitVec.getLsbD_sshiftRight]
  interval_cases i <;> fin_cases b <;> simp

section Bitcast

variable {R n : ℕ}

/-- Words read as bytes, four rows to a word: byte `r` of a column is byte `r % 4` of its word `r / 4`. -/
theorem bytes_apply (x : (⟨2, ![R, n]⟩ : Shape).Idx → BitVec 32) (h : (⟨2, ![R, n]⟩ : Shape).Bitcasts 32 (⟨2, ![4 * R, n]⟩ : Shape) 8)
    (r : Fin (4 * R)) (l : Fin n) :
    bitcast (⟨2, ![4 * R, n]⟩ : Shape) 8 x h (ix2 r l) = (x (ix2 ⟨r.val / 4, by omega⟩ l)).extractLsb' (8 * (r.val % 4)) 8 := by
  refine BitVec.eq_of_getLsbD_eq fun q hq => ?_
  have hrow : (⟨2, ![4 * R, n]⟩ : Shape).row (ix2 r l) = r.val := rfl
  rw [bitcast_getLsbD x h (ix2 r l) q hq (by norm_num), BitVec.getLsbD_extractLsb']
  have e : h.srcIdx (ix2 r l) (((⟨2, ![4 * R, n]⟩ : Shape).row (ix2 r l) * 8 + q) / 32) (fun a ha =>
      (Nat.div_lt_iff_lt_mul (by norm_num)).2 (h.pos_lt (ix2 r l) q hq a ha)) = ix2 ⟨r.val / 4, by omega⟩ l := by
    funext a
    refine Fin.ext ?_
    match a with
    | 0 => rw [Shape.Bitcasts.srcIdx_row _ _ _ _ _ rfl, hrow]; show (r.val * 8 + q) / 32 = r.val / 4; omega
    | 1 => rw [Shape.Bitcasts.srcIdx_other _ _ _ _ _ (by show ¬ (1 + 2 = 2); omega)]; rfl
  rw [e, hrow]
  simp only [hq, decide_true, Bool.true_and]
  congr 1
  omega

end Bitcast

end Cert.Nibbles
-- ==== Proof.Reference.lean ====
/- The reference read at an index, over the extended reals: the row update of every row. -/
module

public import proofs.«01_k».proof.Proof.Gen.ReferenceIdeal.Run
public import proofs.«01_k».proof.Proof.Spec
public import proofs.«01_k».proof.Proof.RowGrad
public import proofs.«01_k».proof.Proof.Nibbles
public import Idealize.ShloMosaic.Lib.Pointwise

@[expose] public section

set_option maxRecDepth 16384

noncomputable section

namespace Cert.ReferenceIdeal.Hand

open Cert.RowUpdate
open Cert.ReferenceIdeal.Value
open Idealize.ShloMosaic Idealize.ShloMosaic.TcCoe Idealize.ShloMosaic.Tactic
open scoped BigOperators

variable (V0 : Valuation τ sig (Elt Ideal))

/-! ## The arguments, read as the row update takes them -/

/-- The bags' gradients, -/
def argG (b : Fin 256) (d : Fin 192) : EReal := V0 (Proc.devRef .tc main_arg1) (ix3 (⟨b.val / 128, by omega⟩ : Fin 2) (⟨b.val % 128, Nat.mod_lt _ (by norm_num)⟩ : Fin 128) d)
/-- row `n`'s packed counts, -/
def argC (n : Fin 20480) (p : Fin 128) : BitVec 32 := V0 (Proc.devRef .tc main_arg2) (ix2 (⟨n.val / 128 * 128 + p.val, by omega⟩ : Fin 20480) (⟨n.val % 128, Nat.mod_lt _ (by norm_num)⟩ : Fin 128))
/-- its lane's packed extra counts, -/
def argE (n : Fin 20480) (p : Fin 128) : BitVec 32 := V0 (Proc.devRef .tc main_arg3) (ix2 p (⟨n.val % 128, Nat.mod_lt _ (by norm_num)⟩ : Fin 128))
/-- its tile's word of the table, -/
def argL (n : Fin 20480) : BitVec 32 := V0 (Proc.devRef .tc main_arg0) (ix1 (⟨n.val / 128 / 5 * 16 + n.val / 128 % 5, by omega⟩ : Fin 512))
/-- its words of codes, -/
def argW (n : Fin 20480) (w : Fin 24) : BitVec 32 := V0 (Proc.devRef .tc main_arg4) (ix2 w n)
/-- its scale, bias and momentum. -/
def argS (n : Fin 20480) : EReal := V0 (Proc.devRef .tc main_arg5) (ix1 n)
def argB (n : Fin 20480) : EReal := V0 (Proc.devRef .tc main_arg6) (ix1 n)
def argM (n : Fin 20480) : EReal := V0 (Proc.devRef .tc main_arg7) (ix1 n)
/-- The row's gradient. -/
def rowG (n : Fin 20480) (d : Fin 192) : EReal := rowGrad (argG V0) (argC V0 n) (argE V0 n) (argL V0 n) d

/-! ## The reference's arrays -/

/-- The count a word's half holds, by the bag's parity. -/
theorem count_eq (w : Fin 128 → BitVec 32) (x : Fin 256) :
    (FloatOps.sitofp FTy.f32 (if h : x.val % 2 < 1 then IntOp.andi (w ⟨x.val / 2, by omega⟩) 65535#32 else IntOp.shrui ArithUnit.host (w ⟨x.val / 2, by omega⟩) 16#32) : Ideal .f32)
      = half w (unbag x) := by
  unfold half
  by_cases h : x.val % 2 < 1
  · have h' : (unbag x).val < 128 := by show 128 * (x.val % 2) + x.val / 2 < 128; omega
    have e : (⟨(unbag x).val, h'⟩ : Fin 128) = ⟨x.val / 2, by omega⟩ := Fin.ext (by show 128 * (x.val % 2) + x.val / 2 = x.val / 2; omega)
    rw [dif_pos h, dif_pos h', e]
    rfl
  · have h' : ¬ (unbag x).val < 128 := by show ¬ 128 * (x.val % 2) + x.val / 2 < 128; omega
    have e : (⟨(unbag x).val - 128, by omega⟩ : Fin 128) = ⟨x.val / 2, by omega⟩ := Fin.ext (by show 128 * (x.val % 2) + x.val / 2 - 128 = x.val / 2; omega)
    rw [dif_neg h, dif_neg h', e]
    unfold IntOp.shrui
    rw [if_pos (by decide)]
    rfl

theorem select_sgt (x : BitVec 32) (a b : EReal) : Scalar.select (IntOp.cmpi .sgt x 1#32) a b = if (1#32).slt x = true then a else b := by
  unfold Scalar.select IntOp.cmpi
  cases h : (1#32).slt x <;> simp [h]

/-- The product the reference forms is the row's gradient. -/
theorem grad_sum (A0 : S512.Idx → BitVec 32) (A1 : S2x128x192.Idx → EReal) (A2 : S20480x128.Idx → BitVec 32) (A3 : S128x128.Idx → BitVec 32) (n : Fin 20480) (d : Fin 192) :
    (∑ x : Fin 256,
      ((FloatOps.sitofp (F := Ideal) FTy.f32 (if h : x.val % 2 < 1 then IntOp.andi (A2 (ix2 (⟨n.val / 128 * 128 + x.val / 2, by omega⟩ : Fin 20480) (⟨n.val % 128, by omega⟩ : Fin 128))) 65535#32
            else IntOp.shrui ArithUnit.host (A2 (ix2 (⟨n.val / 128 * 128 + x.val / 2, by omega⟩ : Fin 20480) (⟨n.val % 128, by omega⟩ : Fin 128))) 16#32)) +
          Scalar.select (IntOp.cmpi CmpIPredicate.sgt (A0 (ix1 (⟨n.val / 128 / 5 * 16 + n.val / 128 % 5, by omega⟩ : Fin 512))) 1#32)
            (FloatOps.sitofp (F := Ideal) FTy.f32 (if h : x.val % 2 < 1 then IntOp.andi (A3 (ix2 (⟨x.val / 2, by omega⟩ : Fin 128) (⟨n.val % 128, by omega⟩ : Fin 128))) 65535#32
              else IntOp.shrui ArithUnit.host (A3 (ix2 (⟨x.val / 2, by omega⟩ : Fin 128) (⟨n.val % 128, by omega⟩ : Fin 128))) 16#32))
            (0 : EReal)) *
        A1 (ix3 (⟨x.val / 128, by omega⟩ : Fin 2) (⟨x.val % 128, by omega⟩ : Fin 128) d))
      = rowGrad (fun b d => A1 (ix3 (⟨b.val / 128, by omega⟩ : Fin 2) (⟨b.val % 128, by omega⟩ : Fin 128) d))
        (fun p => A2 (ix2 (⟨n.val / 128 * 128 + p.val, by omega⟩ : Fin 20480) (⟨n.val % 128, by omega⟩ : Fin 128)))
        (fun p => A3 (ix2 p (⟨n.val % 128, by omega⟩ : Fin 128)))
        (A0 (ix1 (⟨n.val / 128 / 5 * 16 + n.val / 128 % 5, by omega⟩ : Fin 512))) d := by
  unfold rowGrad
  refine Finset.sum_congr rfl fun x _ => ?_
  rw [select_sgt, ← count_eq (fun p => A2 (ix2 (⟨n.val / 128 * 128 + p.val, by omega⟩ : Fin 20480) (⟨n.val % 128, by omega⟩ : Fin 128))) x,
    ← count_eq (fun p => A3 (ix2 p (⟨n.val % 128, by omega⟩ : Fin 128))) x]

/-- The gradients are the rows'. -/
theorem grad_apply (n : Fin 20480) (d : Fin 192) : @Eq EReal (res_main_v32 V0 (ix2 n d)) (rowG V0 n d) := by
  unfold rowG argG argC argE argL
  pointwise [res_main_v32, res_main_v3]
  exact grad_sum (V0 (Proc.devRef .tc main_arg0)) (V0 (Proc.devRef .tc main_arg1)) (V0 (Proc.devRef .tc main_arg2)) (V0 (Proc.devRef .tc main_arg3)) n d

/-- The bytes of codes are the words', four to a word. -/
theorem v44_apply (n : Fin 20480) (b : Fin 96) : (res_main_v44 V0 (ix2 n b) : BitVec 32)
    = (argW V0 n ⟨b.val / 4, by omega⟩).sshiftRight (8 * (b.val % 4)) &&& 255#32 := by
  pointwise [res_main_v44]
  have ht : (IntOp.muli (8#32) (BitVec.ofNat 32 (b.val % 4))).toNat = 8 * (b.val % 4) := by
    show (8#32 * BitVec.ofNat 32 (b.val % 4)).toNat = _
    rw [BitVec.toNat_mul, BitVec.toNat_ofNat, BitVec.toNat_ofNat]; omega
  rw [Cert.Nibbles.shrsi_lt _ _ _ (by rw [ht]; omega), ht]
  rfl

/-- The new momenta are the rows'. -/
theorem v67_apply (n : Fin 20480) : @Eq EReal (res_main_v67 V0 (ix1 n)) (mom (rowG V0 n) (argM V0 n)) := by
  pointwise [res_main_v67]
  simp only [grad_apply]
  unfold mom kLen argM
  rfl

theorem v71_apply (n : Fin 20480) : @Eq EReal (res_main_v71 V0 (ix2 n 0)) (den (rowG V0 n) (argM V0 n)) := by
  pointwise [res_main_v71]
  rw [v67_apply]
  unfold den kEps
  rfl

/-- Row `n`'s weights after the step. -/
abbrev rowW (n : Fin 20480) (d : Fin 192) : EReal := wNew (rowG V0 n) (argS V0 n) (argB V0 n) (argM V0 n) (argW V0 n) d

/-- The even weights are the rows', -/
theorem v79_apply (n : Fin 20480) (b : Fin 96) : @Eq EReal (res_main_v79 V0 (ix2 n b)) (rowW V0 n ⟨2 * b.val, by omega⟩) := by
  pointwise [res_main_v79, res_main_v72]
  rw [grad_apply, v71_apply, v44_apply]
  have e : (⟨b.val * 2, by omega⟩ : Fin 192) = ⟨2 * b.val, by omega⟩ := Fin.ext (by show b.val * 2 = 2 * b.val; omega)
  have en : IntOp.andi ((argW V0 n ⟨b.val / 4, by omega⟩).sshiftRight (8 * (b.val % 4)) &&& 255#32) 15#32
      = nib (argW V0 n ⟨2 * b.val / 8, by omega⟩) (2 * b.val % 8) := by
    refine (Cert.Nibbles.byte_low _ ⟨b.val % 4, by omega⟩).trans ?_
    unfold nib
    have e1 : (⟨b.val / 4, by omega⟩ : Fin 24) = ⟨2 * b.val / 8, by omega⟩ := Fin.ext (by show b.val / 4 = 2 * b.val / 8; omega)
    have e2 : 2 * (b.val % 4) = 2 * b.val % 8 := by omega
    rw [e1]
    show _ = _
    simp only [e2]
  rw [en, e]
  unfold rowW wNew kLr argS argB
  rfl

/-- and the odd ones. -/
theorem v86_apply (n : Fin 20480) (b : Fin 96) : @Eq EReal (res_main_v86 V0 (ix2 n b)) (rowW V0 n ⟨2 * b.val + 1, by omega⟩) := by
  pointwise [res_main_v86, res_main_v72]
  rw [grad_apply, v71_apply, v44_apply]
  have e : (⟨b.val * 2 + 1, by omega⟩ : Fin 192) = ⟨2 * b.val + 1, by omega⟩ := Fin.ext (by show b.val * 2 + 1 = 2 * b.val + 1; omega)
  have en : IntOp.shrsi ArithUnit.host ((argW V0 n ⟨b.val / 4, by omega⟩).sshiftRight (8 * (b.val % 4)) &&& 255#32) 4#32
      = nib (argW V0 n ⟨(2 * b.val + 1) / 8, by omega⟩) ((2 * b.val + 1) % 8) := by
    rw [Cert.Nibbles.shrsi_lt _ _ _ (by decide)]
    refine (Cert.Nibbles.byte_high _ ⟨b.val % 4, by omega⟩).trans ?_
    unfold nib
    have e1 : (⟨b.val / 4, by omega⟩ : Fin 24) = ⟨(2 * b.val + 1) / 8, by omega⟩ := Fin.ext (by show b.val / 4 = (2 * b.val + 1) / 8; omega)
    have e2 : 2 * (b.val % 4) + 1 = (2 * b.val + 1) % 8 := by omega
    rw [e1]
    show _ = _
    simp only [e2]
  rw [en, e]
  unfold rowW wNew kLr argS argB
  rfl

/-- An index of the weights lies over a row iff its first coordinate is the row. -/
theorem drop_iff (P : S20480x96.Idx → Prop) (n : Fin 20480) :
    (∀ i, Gen.reducesTo_S20480x96_S20480_d1.drop i = ix1 n → P i) ↔ ∀ b : Fin 96, P (ix2 n b) := by
  have hd : ∀ (a : Fin 20480) (b : Fin 96), Gen.reducesTo_S20480x96_S20480_d1.drop (ix2 a b) = ix1 a := fun a b => by
    funext q
    match q with
    | 0 => rfl
  refine ⟨fun h b => h _ (hd n b), fun h i hi => ?_⟩
  obtain ⟨a, b, rfl⟩ : ∃ (a : Fin 20480) (b : Fin 96), i = ix2 a b := ⟨i 0, i 1, by funext q; match q with | 0 => rfl | 1 => rfl⟩
  rw [hd] at hi
  obtain rfl : a = n := congrFun hi 0
  exact h b

/-- What holds of every even and every odd weight holds of every weight. -/
theorem forall_pair (P : Fin 192 → Prop) :
    ((∀ b : Fin 96, P ⟨2 * b.val, by omega⟩) ∧ ∀ b : Fin 96, P ⟨2 * b.val + 1, by omega⟩) ↔ ∀ d, P d := by
  refine ⟨fun h d => ?_, fun h => ⟨fun _ => h _, fun _ => h _⟩⟩
  rcases Nat.mod_two_eq_zero_or_one d.val with hd | hd
  · have := h.1 ⟨d.val / 2, by omega⟩
    rwa [show (⟨2 * (d.val / 2), by omega⟩ : Fin 192) = d from Fin.ext (by show 2 * (d.val / 2) = d.val; omega)] at this
  · have := h.2 ⟨d.val / 2, by omega⟩
    rwa [show (⟨2 * (d.val / 2) + 1, by omega⟩ : Fin 192) = d from Fin.ext (by show 2 * (d.val / 2) + 1 = d.val; omega)] at this

/-- The least over the even and over the odd weights is the least of all, -/
theorem fold_min_rows (f g : S20480x96.Idx → EReal) (W : Fin 192 → EReal) (n : Fin 20480) (hf : ∀ b : Fin 96, f (ix2 n b) = W ⟨2 * b.val, by omega⟩)
    (hg : ∀ b : Fin 96, g (ix2 n b) = W ⟨2 * b.val + 1, by omega⟩) :
    min (Finset.fold min kTop f (Finset.univ.filter fun i => Gen.reducesTo_S20480x96_S20480_d1.drop i = ix1 n))
      (Finset.fold min kTop g (Finset.univ.filter fun i => Gen.reducesTo_S20480x96_S20480_d1.drop i = ix1 n)) = Finset.univ.fold min kTop W := by
  refine eq_of_forall_le_iff fun c => ?_
  rw [le_min_iff, Finset.le_fold_min, Finset.le_fold_min, Finset.le_fold_min]
  simp only [Finset.mem_filter, Finset.mem_univ, true_and, true_implies]
  rw [drop_iff (fun i => c ≤ f i), drop_iff (fun i => c ≤ g i), ← forall_pair fun d => c ≤ W d]
  simp only [hf, hg]
  exact ⟨fun h => ⟨h.1.1, h.1.2, h.2.2⟩, fun h => ⟨⟨h.1, h.2.1⟩, h.1, h.2.2⟩⟩

/-- and the greatest the greatest. -/
theorem fold_max_rows (f g : S20480x96.Idx → EReal) (W : Fin 192 → EReal) (n : Fin 20480) (hf : ∀ b : Fin 96, f (ix2 n b) = W ⟨2 * b.val, by omega⟩)
    (hg : ∀ b : Fin 96, g (ix2 n b) = W ⟨2 * b.val + 1, by omega⟩) :
    max (Finset.fold max kBot f (Finset.univ.filter fun i => Gen.reducesTo_S20480x96_S20480_d1.drop i = ix1 n))
      (Finset.fold max kBot g (Finset.univ.filter fun i => Gen.reducesTo_S20480x96_S20480_d1.drop i = ix1 n)) = Finset.univ.fold max kBot W := by
  refine eq_of_forall_ge_iff fun c => ?_
  rw [max_le_iff, Finset.fold_max_le, Finset.fold_max_le, Finset.fold_max_le]
  simp only [Finset.mem_filter, Finset.mem_univ, true_and, true_implies]
  rw [drop_iff (fun i => f i ≤ c), drop_iff (fun i => g i ≤ c), ← forall_pair fun d => W d ≤ c]
  simp only [hf, hg]
  exact ⟨fun h => ⟨h.1.1, h.1.2, h.2.2⟩, fun h => ⟨⟨h.1, h.2.1⟩, h.1, h.2.2⟩⟩

/-- A row's reduction by the minimum as a fold over the row, -/
theorem reduce_min (f : FVec Ideal S20480x96 .f32) (n : Fin 20480) :
    @Eq EReal (Host.reduce (FloatOps.minimumf (F := Ideal) (φ := .f32)) f (constant (F := Ideal) S_ .f32 0x7F800000#32) Gen.reducesTo_S20480x96_S20480_d1 Gen.h_S_ (ix1 n))
      (Finset.fold min kTop f (Finset.univ.filter fun i => Gen.reducesTo_S20480x96_S20480_d1.drop i = ix1 n)) := by
  refine (Host.reduce_eq_fold _ _ _ _ _ _).trans ?_
  unfold kTop
  rfl

/-- and by the maximum. -/
theorem reduce_max (f : FVec Ideal S20480x96 .f32) (n : Fin 20480) :
    @Eq EReal (Host.reduce (FloatOps.maximumf (F := Ideal) (φ := .f32)) f (constant (F := Ideal) S_ .f32 0xFF800000#32) Gen.reducesTo_S20480x96_S20480_d1 Gen.h_S_ (ix1 n))
      (Finset.fold max kBot f (Finset.univ.filter fun i => Gen.reducesTo_S20480x96_S20480_d1.drop i = ix1 n)) := by
  refine (Host.reduce_eq_fold _ _ _ _ _ _).trans ?_
  unfold kBot
  rfl

theorem min_at (x y : FVec Ideal S20480 .f32) (n : Fin 20480) (a b : EReal) (hx : x (ix1 n) = a) (hy : y (ix1 n) = b) : @Eq EReal (minimumf x y (ix1 n)) (min a b) := by
  subst hx; subst hy; rfl

theorem max_at (x y : FVec Ideal S20480 .f32) (n : Fin 20480) (a b : EReal) (hx : x (ix1 n) = a) (hy : y (ix1 n) = b) : @Eq EReal (maximumf x y (ix1 n)) (max a b) := by
  subst hx; subst hy; rfl

/-- The new biases are the rows'. -/
theorem v89_apply (n : Fin 20480) : @Eq EReal (res_main_v89 V0 (ix1 n)) (rMin (rowG V0 n) (argS V0 n) (argB V0 n) (argM V0 n) (argW V0 n)) := by
  unfold res_main_v89
  exact (min_at _ _ n _ _ (reduce_min (res_main_v79 V0) n) (reduce_min (res_main_v86 V0) n)).trans
    (fold_min_rows _ _ (rowW V0 n) n (v79_apply V0 n) (v86_apply V0 n))

/-- The rows' greatest weights. -/
theorem v92_apply (n : Fin 20480) : @Eq EReal (res_main_v92 V0 (ix1 n)) (rMax (rowG V0 n) (argS V0 n) (argB V0 n) (argM V0 n) (argW V0 n)) := by
  unfold res_main_v92
  exact (max_at _ _ n _ _ (reduce_max (res_main_v79 V0) n) (reduce_max (res_main_v86 V0) n)).trans
    (fold_max_rows _ _ (rowW V0 n) n (v79_apply V0 n) (v86_apply V0 n))

/-- The scales, from the greatest and the least weights. -/
theorem scale_apply (A B : FVec Ideal S20480 .f32) (n : Fin 20480) :
    @Eq EReal (select (cmpf .oeq A B) (broadcastInDim S20480 ![] Gen.bcast_S_S20480 (constant (F := Ideal) S_ .f32 0x3F800000#32)) (Host.divf (subf A B) (broadcastInDim S20480 ![] Gen.bcast_S_S20480 (constant (F := Ideal) S_ .f32 0x41700000#32))) (ix1 n))
      (if @Eq EReal (A (ix1 n)) (B (ix1 n)) then 1 else Ideal.div (@HSub.hSub EReal EReal EReal _ (A (ix1 n)) (B (ix1 n))) kMax) := by
  unfold kMax
  pointwise []

/-- The new scales are the rows'. -/
theorem v97_apply (n : Fin 20480) : @Eq EReal (res_main_v97 V0 (ix1 n)) (scale (rowG V0 n) (argS V0 n) (argB V0 n) (argM V0 n) (argW V0 n)) := by
  unfold res_main_v97
  refine (scale_apply (res_main_v92 V0) (res_main_v89 V0) n).trans ?_
  rw [v92_apply, v89_apply]
  unfold scale
  rfl

/-! ## The results -/

/-- The packed codes, from the even and the odd weights, the biases and the scales. -/
def codesOf (A A' : FVec Ideal S20480x96 .f32) (B C : FVec Ideal S20480 .f32) : IVec S96x20480 8 :=
  transpose S96x20480 [1, 0] (trunci 8 (addi (fptosi 32 (minimumf (broadcastInDim S20480x96 ![] Gen.bcast_S_S20480x96 (id (constant S_ .f32 0x41700000#32))) (maximumf (broadcastInDim S20480x96 ![] Gen.bcast_S_S20480x96 (id (constant S_ .f32 0x00000000#32))) (Host.roundeven (Host.divf (subf A (broadcastInDim S20480x96 ![0, 1] Gen.bcast_S20480x1_S20480x96_0_1 (broadcastInDim S20480x1 ![0] Gen.bcast_S20480_S20480x1_0 B))) (broadcastInDim S20480x96 ![0, 1] Gen.bcast_S20480x1_S20480x96_0_1 (broadcastInDim S20480x1 ![0] Gen.bcast_S20480_S20480x1_0 C))))))) (muli (broadcastInDim S20480x96 ![] Gen.bcast_S_S20480x96 (constantI S_ 32 16#32)) (fptosi 32 (minimumf (broadcastInDim S20480x96 ![] Gen.bcast_S_S20480x96 (id (constant S_ .f32 0x41700000#32))) (maximumf (broadcastInDim S20480x96 ![] Gen.bcast_S_S20480x96 (id (constant S_ .f32 0x00000000#32))) (Host.roundeven (Host.divf (subf A' (broadcastInDim S20480x96 ![0, 1] Gen.bcast_S20480x1_S20480x96_0_1 (broadcastInDim S20480x1 ![0] Gen.bcast_S20480_S20480x1_0 B))) (broadcastInDim S20480x96 ![0, 1] Gen.bcast_S20480x1_S20480x96_0_1 (broadcastInDim S20480x1 ![0] Gen.bcast_S20480_S20480x1_0 C))))))))) Gen.natLt_8_32) Gen.transposes_S20480x96_S96x20480_1_0

/-- One code: the weight less the bias, over the scale, rounded and clipped. -/
def codeOf (a b c : EReal) : BitVec 32 := Ideal.fptosi 32 (min kMax (max 0 (Ideal.liftRound Ideal.roundHalfEven (Ideal.div (a - b) c))))

theorem codesOf_apply (A A' : FVec Ideal S20480x96 .f32) (B C : FVec Ideal S20480 .f32) (b : Fin 96) (n : Fin 20480) :
    codesOf A A' B C (ix2 b n) = BitVec.setWidth 8 (codeOf (A (ix2 n b)) (B (ix1 n)) (C (ix1 n)) + 16#32 * codeOf (A' (ix2 n b)) (B (ix1 n)) (C (ix1 n))) := by
  unfold codesOf codeOf kMax
  pointwise []
  rw [show id (constant (F := Ideal) S_ FTy.f32 0#32) ix0 = (0 : EReal) from by
    show Ideal.ofBits .f32 0x00000000#32 = 0
    simp [Ideal.ofBits, Ideal.ieee]]
  rfl

/-- The packed codes are the rows'. -/
theorem codes_apply (b : Fin 96) (n : Fin 20480) : codesOf (res_main_v79 V0) (res_main_v86 V0) (res_main_v89 V0) (res_main_v97 V0) (ix2 b n)
    = byte (rowG V0 n) (argS V0 n) (argB V0 n) (argM V0 n) (argW V0 n) b := by
  refine (codesOf_apply _ _ _ _ b n).trans ?_
  rw [v79_apply, v86_apply, v89_apply, v97_apply]
  rfl

/-- Row `128 o + l` of a column of rows, at tile `o`, lane `l`. -/
theorem tiles_apply (A : FVec Ideal S20480 .f32) (o : Fin 160) (l : Fin 128) :
    shapeCast S160x128 A Gen.shapeCasts_S20480_S160x128 (ix2 o l) = A (ix1 (⟨o.val * 128 + l.val, by omega⟩ : Fin 20480)) := by
  pointwise []

end Cert.ReferenceIdeal.Hand

end
-- ==== Proof.Ideal.Tile.lean ====
/- One tile of the kernel's update: from the tile's columns of the gradient accumulator, its rows of scales, biases and
   momenta and its columns of packed codes, the four things the body stores for it, and that the run's lists of pieces are
   these, tile by tile. -/
module

public import proofs.«01_k».proof.Proof.Ideal.Run
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-! ## What is stored for a tile -/

section Tile

variable (g : Vec F S192x128 .f32) (sc bi mo : Vec F S1x128 .f32) (pk : Vec F S24x128 .i32)

/-- The constant added to the square root of the momentum. -/
def tEps : F .f32 := Scalar.ofBits .f32 0x322BCC77#32
/-- The tile's new momenta. -/
def tMom : FVec F S1x128 .f32 := k0_pay14 g mo
/-- The learning rate over the root of the momenta. -/
def tRate : FVec F S1x128 .f32 := k0_pay16 (k0_pay15 g mo) tEps
/-- The updated weights of nibble 0 of each word, -/
def tW0 : FVec F S24x128 .f32 := k0_pay17 g (k0_pay12 sc) (k0_pay13 bi) (k0_pay15 g mo) tEps pk
/-- of nibble 1, -/
def tW1 : FVec F S24x128 .f32 := k0_pay18 g (k0_pay12 sc) (k0_pay13 bi) (k0_pay15 g mo) tEps pk
/-- of nibble 2, -/
def tW2 : FVec F S24x128 .f32 := k0_pay19 g (k0_pay12 sc) (k0_pay13 bi) (k0_pay15 g mo) tEps pk
/-- of nibble 3, -/
def tW3 : FVec F S24x128 .f32 := k0_pay21 g (k0_pay12 sc) (k0_pay13 bi) (tRate g mo) (k0_pay20 pk)
/-- of nibble 4, -/
def tW4 : FVec F S24x128 .f32 := k0_pay22 g (k0_pay12 sc) (k0_pay13 bi) (tRate g mo) pk
/-- of nibble 5, -/
def tW5 : FVec F S24x128 .f32 := k0_pay23 g (k0_pay12 sc) (k0_pay13 bi) (tRate g mo) pk
/-- of nibble 6, -/
def tW6 : FVec F S24x128 .f32 := k0_pay24 g (k0_pay12 sc) (k0_pay13 bi) (tRate g mo) pk
/-- and of nibble 7. -/
def tW7 : FVec F S24x128 .f32 := k0_pay26 g (k0_pay12 sc) (k0_pay13 bi) (tRate g mo) (k0_pay25 pk)
/-- The tile's new biases: each row's least updated weight. -/
def tBias : FVec F S1x128 .f32 :=
  k0_pay27 g (k0_pay12 sc) (k0_pay13 bi) (tRate g mo) (tW0 g sc bi mo pk) (tW1 g sc bi mo pk) (tW2 g sc bi mo pk)
    (tW3 g sc bi mo pk) (tW4 g sc bi mo pk) (tW5 g sc bi mo pk) (tW6 g sc bi mo pk) (k0_pay25 pk)
/-- The tile's new scales. -/
def tScale : FVec F S1x128 .f32 :=
  k0_pay28 g (k0_pay12 sc) (k0_pay13 bi) (tRate g mo) (tW0 g sc bi mo pk) (tW1 g sc bi mo pk) (tW2 g sc bi mo pk)
    (tW3 g sc bi mo pk) (tW4 g sc bi mo pk) (tW5 g sc bi mo pk) (tW6 g sc bi mo pk) (k0_pay25 pk)
/-- The new scales' reciprocals. -/
def tInv : FVec F S1x128 .f32 :=
  k0_pay29 g (k0_pay12 sc) (k0_pay13 bi) (tRate g mo) (tW0 g sc bi mo pk) (tW1 g sc bi mo pk) (tW2 g sc bi mo pk)
    (tW3 g sc bi mo pk) (tW4 g sc bi mo pk) (tW5 g sc bi mo pk) (tW6 g sc bi mo pk) (k0_pay25 pk)
/-- The codes of nibble 0. -/
def tQ0 : IVec S24x128 32 :=
  k0_pay30 g (k0_pay12 sc) (k0_pay13 bi) (tRate g mo) (tW0 g sc bi mo pk) (tW1 g sc bi mo pk) (tW2 g sc bi mo pk)
    (tW3 g sc bi mo pk) (tW4 g sc bi mo pk) (tW5 g sc bi mo pk) (tW6 g sc bi mo pk) (k0_pay25 pk)
/-- The tile's new packed codes. -/
def tCodes : IVec S96x128 8 :=
  k0_pay34 (tW5 g sc bi mo pk) (tW6 g sc bi mo pk) (tW7 g sc bi mo pk) (tBias g sc bi mo pk) (tInv g sc bi mo pk)
    (k0_pay31 (tW1 g sc bi mo pk) (tW2 g sc bi mo pk) (tW3 g sc bi mo pk) (tBias g sc bi mo pk) (tInv g sc bi mo pk)
      (tQ0 g sc bi mo pk) 0#32)
    (k0_pay32 (tW4 g sc bi mo pk) (tBias g sc bi mo pk) (tInv g sc bi mo pk)) k0_pay33

end Tile

/-! ## The tiles of a block -/

theorem row_inb (k : Fin 8) : ∀ a, (![k.val, 0] : Fin 2 → ℕ) a + S1x128.size a ≤ S8x128.size a :=
  Fin.forall_fin_two.mpr ⟨by show k.val + 1 ≤ 8; omega, by show 0 + 128 ≤ 128; decide⟩
theorem cols_inb192 (k : Fin 8) : ∀ a, (![0, 128 * k.val] : Fin 2 → ℕ) a + S192x128.size a ≤ S192x1024.size a :=
  Fin.forall_fin_two.mpr ⟨by show 0 + 192 ≤ 192; decide, by show 128 * k.val + 128 ≤ 1024; omega⟩
theorem cols_inb24 (k : Fin 8) : ∀ a, (![0, 128 * k.val] : Fin 2 → ℕ) a + S24x128.size a ≤ S24x1024.size a :=
  Fin.forall_fin_two.mpr ⟨by show 0 + 24 ≤ 24; decide, by show 128 * k.val + 128 ≤ 1024; omega⟩
theorem cols_inb96 (k : Fin 8) : ∀ a, (![0, 128 * k.val] : Fin 2 → ℕ) a + S96x128.size a ≤ S96x1024.size a :=
  Fin.forall_fin_two.mpr ⟨by show 0 + 96 ≤ 96; decide, by show 128 * k.val + 128 ≤ 1024; omega⟩

/-- Tile `k`'s row of a block of rows, -/
def rowOf (x : Vec F S8x128 .f32) (k : Fin 8) : Vec F S1x128 .f32 := VecWindow.window x ![k.val, 0] S1x128.size (row_inb k)
/-- its columns of the accumulator, -/
def accOf (x : Vec F S192x1024 .f32) (k : Fin 8) : Vec F S192x128 .f32 := VecWindow.window x ![0, 128 * k.val] S192x128.size (cols_inb192 k)
/-- and its columns of the packed codes. -/
def wordsOf (x : Vec F S24x1024 .i32) (k : Fin 8) : Vec F S24x128 .i32 := VecWindow.window x ![0, 128 * k.val] S24x128.size (cols_inb24 k)

section Pieces

variable (c : Dev nD) (i : grid0.Coords) (arg2 : Memref sig .tc .vmem S192x256 .bf16) (harg2 : arg2.IsWhole) (arg3 : Memref sig .tc .vmem S1024x128 .i32) (harg3 : arg3.IsWhole) (arg5 : Memref sig .tc .vmem S24x1024 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S96x1024 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S192x1024 .f32) (harg13 : arg13.IsWhole) (arg14 : Memref sig .tc .vmem S128x128 .i32) (harg14 : arg14.IsWhole)
    (x0 : Vec F S192x256 .bf16) (x1 : Vec F S1024x128 .i32) (x2 : Vec F S24x1024 .i32) (x3 : Vec F S8x128 .f32) (x4 : Vec F S8x128 .f32) (x5 : Vec F S8x128 .f32) (xt0 : TbBuf0 (F := F) c tbM0_0) (fh0 : HbBuf0 (F := F) c hbM0_0)

/-- The gradient as the body loads it. -/
abbrev gradLd : Vec F S192x256 .bf16 :=
  arg2.view.readAt (Elt F) (Rect.unit (s := S192x256) ![0, 0] S192x256.size inb_S192x256_S192x256_0_0).toLoadRect (harg2.unread x0)
/-- A tile's packed counts as the body loads them. -/
abbrev cntLd (o : ℕ) (inb : ∀ a, (![o, 0] : Fin 2 → ℕ) a + S128x128.size a ≤ S1024x128.size a) : Vec F S128x128 .i32 :=
  arg3.view.readAt (Elt F) (Rect.unit (s := S1024x128) ![o, 0] S128x128.size inb).toLoadRect (harg3.unread x1)

/-- What the accumulator's buffer holds when the loop is entered: the four products over the junk that was there. -/
abbrev accEntry : Buf (Elt F) (arg13.view.loc (c : Thread nD τ)) :=
  arg13.view.writes (Elt F) arg13.view.junk
    [⟨Rect.unit ![0, 768] S192x256.size inb_S192x1024_S192x256_0_768,
        k0_pay9 (k0_pay1 (gradLd arg2 harg2 x0))
          (k0_pay7 (cntLd arg3 harg3 x1 768 inb_S1024x128_S128x128_768_0))
          (k0_pay8 (cntLd arg3 harg3 x1 768 inb_S1024x128_S128x128_768_0))
          (cntLd arg3 harg3 x1 896 inb_S1024x128_S128x128_896_0)⟩,
      ⟨Rect.unit ![0, 512] S192x256.size inb_S192x1024_S192x256_0_512,
        k0_pay6 (k0_pay1 (gradLd arg2 harg2 x0))
          (cntLd arg3 harg3 x1 512 inb_S1024x128_S128x128_512_0)
          (cntLd arg3 harg3 x1 640 inb_S1024x128_S128x128_640_0)⟩,
      ⟨Rect.unit ![0, 256] S192x256.size inb_S192x1024_S192x256_0_256,
        k0_pay5 (k0_pay1 (gradLd arg2 harg2 x0))
          (k0_pay3 (cntLd arg3 harg3 x1 256 inb_S1024x128_S128x128_256_0))
          (cntLd arg3 harg3 x1 384 inb_S1024x128_S128x128_384_0)
          (k0_pay4 (cntLd arg3 harg3 x1 384 inb_S1024x128_S128x128_384_0))⟩,
      ⟨Rect.unit ![0, 0] S192x256.size inb_S192x1024_S192x256_0_0,
        k0_pay2 (gradLd arg2 harg2 x0)
          (cntLd arg3 harg3 x1 0 inb_S1024x128_S128x128_0_0)
          (cntLd arg3 harg3 x1 128 inb_S1024x128_S128x128_128_0)⟩]

/-- What the accumulator holds when the loop is left. -/
def accEnd : Vec F S192x1024 .f32 :=
  arg13.view.read (Elt F) (gB c i arg3 arg13 arg14
    (k0_pay1 (gradLd arg2 harg2 x0))
    (harg3.unread x1) xt0 fh0 (accEntry c arg2 harg2 arg3 harg3 arg13 x0 x1) k0_t1_loop.trips)

/-- The pieces stored as new momenta: tile by tile, last first. -/
theorem pieces9 : (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.2.2.1 = [7, 6, 5, 4, 3, 2, 1, 0].map fun k : Fin 8 =>
    (⟨Rect.unit ![k.val, 0] S1x128.size (row_inb k), tMom (accOf (accEnd c i arg2 harg2 arg3 harg3 arg13 arg14 x0 x1 xt0 fh0) k) (rowOf (arg8.view.read (Elt F) (harg8.unread x5)) k)⟩ : View.Piece (Elt F) S8x128 .f32) := by
  rfl

set_option maxHeartbeats 4000000 in
/-- The pieces stored as new codes. -/
theorem pieces6 : (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).1 = [7, 6, 5, 4, 3, 2, 1, 0].map fun k : Fin 8 =>
    (⟨Rect.unit ![0, 128 * k.val] S96x128.size (cols_inb96 k), tCodes (accOf (accEnd c i arg2 harg2 arg3 harg3 arg13 arg14 x0 x1 xt0 fh0) k) (rowOf (arg6.view.read (Elt F) (harg6.unread x3)) k) (rowOf (arg7.view.read (Elt F) (harg7.unread x4)) k) (rowOf (arg8.view.read (Elt F) (harg8.unread x5)) k) (wordsOf (arg5.view.read (Elt F) (harg5.unread x2)) k)⟩ : View.Piece (Elt F) S96x1024 .i8) := by
  rfl

/-- The pieces stored as new scales. -/
theorem pieces7 : (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.1 = [7, 6, 5, 4, 3, 2, 1, 0].map fun k : Fin 8 =>
    (⟨Rect.unit ![k.val, 0] S1x128.size (row_inb k), tScale (accOf (accEnd c i arg2 harg2 arg3 harg3 arg13 arg14 x0 x1 xt0 fh0) k) (rowOf (arg6.view.read (Elt F) (harg6.unread x3)) k) (rowOf (arg7.view.read (Elt F) (harg7.unread x4)) k) (rowOf (arg8.view.read (Elt F) (harg8.unread x5)) k) (wordsOf (arg5.view.read (Elt F) (harg5.unread x2)) k)⟩ : View.Piece (Elt F) S8x128 .f32) := by
  rfl

/-- The pieces stored as new biases. -/
theorem pieces8 : (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.2.1 = [7, 6, 5, 4, 3, 2, 1, 0].map fun k : Fin 8 =>
    (⟨Rect.unit ![k.val, 0] S1x128.size (row_inb k), tBias (accOf (accEnd c i arg2 harg2 arg3 harg3 arg13 arg14 x0 x1 xt0 fh0) k) (rowOf (arg6.view.read (Elt F) (harg6.unread x3)) k) (rowOf (arg7.view.read (Elt F) (harg7.unread x4)) k) (rowOf (arg8.view.read (Elt F) (harg8.unread x5)) k) (wordsOf (arg5.view.read (Elt F) (harg5.unread x2)) k)⟩ : View.Piece (Elt F) S8x128 .f32) := by
  rfl

end Pieces

end Cert.KernelIdeal.Hand

end
-- ==== Proof.Ideal.TileValue.lean ====
/- What is stored for a tile, read over the extended reals: the row update of each of the tile's rows. -/
module

public import proofs.«01_k».proof.Proof.Ideal.Tile
public import proofs.«01_k».proof.Proof.Spec
public import proofs.«01_k».proof.Proof.Nibbles
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Cert.RowUpdate Cert.Nibbles
open scoped BigOperators

/-- The accumulator's row of a row's weight `d`. -/
def slot (d : Fin 192) : Fin 192 := ⟨d.val % 8 * 24 + d.val / 8, by omega⟩

/-- The weight of an accumulator's row. -/
def unslot (r : Fin 192) : Fin 192 := ⟨8 * (r.val % 24) + r.val / 24, by omega⟩

theorem slot_unslot (r : Fin 192) : slot (unslot r) = r := by
  refine Fin.ext ?_; show (8 * (r.val % 24) + r.val / 24) % 8 * 24 + (8 * (r.val % 24) + r.val / 24) / 8 = r.val
  omega
theorem unslot_slot (d : Fin 192) : unslot (slot d) = d := by
  refine Fin.ext ?_; show 8 * ((d.val % 8 * 24 + d.val / 8) % 24) + (d.val % 8 * 24 + d.val / 8) / 24 = d.val
  omega

/-- A row's weights and the accumulator's rows, one to one. -/
def slots : Fin 192 ≃ Fin 192 := ⟨slot, unslot, unslot_slot, slot_unslot⟩

section

variable (g : Vec Ideal S192x128 .f32) (sc bi mo : Vec Ideal S1x128 .f32) (pk : Vec Ideal S24x128 .i32) (l : Fin 128)

/-- Lane `l`'s gradient, weight by weight. -/
def gradAt (d : Fin 192) : EReal := g (ix2 (slot d) l)
/-- Lane `l`'s words of codes. -/
def wordAt (w : Fin 24) : BitVec 32 := pk (ix2 w l)

/-- The tile's new momenta are the rows'. -/
theorem tMom_apply : tMom g mo (ix2 (0 : Fin 1) l) = mom (gradAt g l) (mo (ix2 (0 : Fin 1) l)) := by
  pointwise [tMom, k0_pay14]
  unfold mom
  rw [← Equiv.sum_comp slots]
  rfl

/-- The rate over the root, lane by lane. -/
theorem tRate_apply : tRate g mo (ix2 (0 : Fin 1) l) = Ideal.div kLr (den (gradAt g l) (mo (ix2 (0 : Fin 1) l))) := by
  unfold tRate k0_pay16 k0_pay15
  pointwise []
  unfold den
  rw [← tMom_apply]
  rfl

/-- One weight's step as the body writes it. -/
theorem step_eq (w : Fin 24) (m : ℕ) (hm : m < 8) (x a : BitVec 32) (ha : a.toNat = 4 * m) (hx : x = wordAt pk l w) (r : Fin 192) (hr : r.val = 24 * m + w.val)
    (s b : EReal) :
    FloatOps.sitofp (F := Ideal) .f32 (IntOp.andi (IntOp.shrsi .vector x a) 15#32) * s + b - g (ix2 r l) * tRate g mo (ix2 (0 : Fin 1) l)
      = wNew (gradAt g l) s b (mo (ix2 (0 : Fin 1) l)) (wordAt pk l) ⟨8 * w.val + m, by omega⟩ := by
  rw [tRate_apply, mul_rate (den_ne _ _), shrsi_lt _ _ _ (by omega), ha, hx]
  unfold wNew
  have e1 : (⟨(8 * w.val + m) / 8, by omega⟩ : Fin 24) = w := Fin.ext (by show (8 * w.val + m) / 8 = w.val; omega)
  have e2 : (8 * w.val + m) % 8 = m := by omega
  have e3 : r = slot ⟨8 * w.val + m, by omega⟩ :=
    Fin.ext (by rw [hr]; show 24 * m + w.val = (8 * w.val + m) % 8 * 24 + (8 * w.val + m) / 8; omega)
  simp only [e1, e2, e3]
  rfl

theorem tW0_apply (w : Fin 24) : tW0 g sc bi mo pk (ix2 w l)
    = wNew (gradAt g l) (sc (ix2 (0 : Fin 1) l)) (bi (ix2 (0 : Fin 1) l)) (mo (ix2 (0 : Fin 1) l)) (wordAt pk l) ⟨8 * w.val + 0, by omega⟩ := by
  unfold tW0 k0_pay17
  pointwise [k0_pay12, k0_pay13]
  exact step_eq g mo pk l w 0 (by omega) _ 0#32 rfl rfl _ (by show _ = 24 * 0 + w.val; simp) _ _

theorem tW1_apply (w : Fin 24) : tW1 g sc bi mo pk (ix2 w l)
    = wNew (gradAt g l) (sc (ix2 (0 : Fin 1) l)) (bi (ix2 (0 : Fin 1) l)) (mo (ix2 (0 : Fin 1) l)) (wordAt pk l) ⟨8 * w.val + 1, by omega⟩ := by
  unfold tW1 k0_pay18
  pointwise [k0_pay12, k0_pay13]
  exact step_eq g mo pk l w 1 (by omega) _ 4#32 rfl rfl _ (by show _ = 24 * 1 + w.val; simp) _ _

theorem tW2_apply (w : Fin 24) : tW2 g sc bi mo pk (ix2 w l)
    = wNew (gradAt g l) (sc (ix2 (0 : Fin 1) l)) (bi (ix2 (0 : Fin 1) l)) (mo (ix2 (0 : Fin 1) l)) (wordAt pk l) ⟨8 * w.val + 2, by omega⟩ := by
  unfold tW2 k0_pay19
  pointwise [k0_pay12, k0_pay13]
  exact step_eq g mo pk l w 2 (by omega) _ 8#32 rfl rfl _ (by show _ = 24 * 2 + w.val; simp) _ _

theorem tW3_apply (w : Fin 24) : tW3 g sc bi mo pk (ix2 w l)
    = wNew (gradAt g l) (sc (ix2 (0 : Fin 1) l)) (bi (ix2 (0 : Fin 1) l)) (mo (ix2 (0 : Fin 1) l)) (wordAt pk l) ⟨8 * w.val + 3, by omega⟩ := by
  unfold tW3 k0_pay21 k0_pay20
  pointwise [k0_pay12, k0_pay13]
  exact step_eq g mo pk l w 3 (by omega) _ 12#32 rfl rfl _ (by show _ = 24 * 3 + w.val; simp) _ _

theorem tW4_apply (w : Fin 24) : tW4 g sc bi mo pk (ix2 w l)
    = wNew (gradAt g l) (sc (ix2 (0 : Fin 1) l)) (bi (ix2 (0 : Fin 1) l)) (mo (ix2 (0 : Fin 1) l)) (wordAt pk l) ⟨8 * w.val + 4, by omega⟩ := by
  unfold tW4 k0_pay22
  pointwise [k0_pay12, k0_pay13]
  exact step_eq g mo pk l w 4 (by omega) _ 16#32 rfl rfl _ (by show _ = 24 * 4 + w.val; simp) _ _

theorem tW5_apply (w : Fin 24) : tW5 g sc bi mo pk (ix2 w l)
    = wNew (gradAt g l) (sc (ix2 (0 : Fin 1) l)) (bi (ix2 (0 : Fin 1) l)) (mo (ix2 (0 : Fin 1) l)) (wordAt pk l) ⟨8 * w.val + 5, by omega⟩ := by
  unfold tW5 k0_pay23
  pointwise [k0_pay12, k0_pay13]
  exact step_eq g mo pk l w 5 (by omega) _ 20#32 rfl rfl _ (by show _ = 24 * 5 + w.val; simp) _ _

theorem tW6_apply (w : Fin 24) : tW6 g sc bi mo pk (ix2 w l)
    = wNew (gradAt g l) (sc (ix2 (0 : Fin 1) l)) (bi (ix2 (0 : Fin 1) l)) (mo (ix2 (0 : Fin 1) l)) (wordAt pk l) ⟨8 * w.val + 6, by omega⟩ := by
  unfold tW6 k0_pay24
  pointwise [k0_pay12, k0_pay13]
  exact step_eq g mo pk l w 6 (by omega) _ 24#32 rfl rfl _ (by show _ = 24 * 6 + w.val; simp) _ _

theorem tW7_apply (w : Fin 24) : tW7 g sc bi mo pk (ix2 w l)
    = wNew (gradAt g l) (sc (ix2 (0 : Fin 1) l)) (bi (ix2 (0 : Fin 1) l)) (mo (ix2 (0 : Fin 1) l)) (wordAt pk l) ⟨8 * w.val + 7, by omega⟩ := by
  unfold tW7 k0_pay26 k0_pay25
  pointwise [k0_pay12, k0_pay13]
  exact step_eq g mo pk l w 7 (by omega) _ 28#32 rfl rfl _ (by show _ = 24 * 7 + w.val; simp) _ _

/-- The updated weights of nibble `m` of each word. -/
def tW : Fin 8 → FVec Ideal S24x128 .f32 :=
  ![tW0 g sc bi mo pk, tW1 g sc bi mo pk, tW2 g sc bi mo pk, tW3 g sc bi mo pk, tW4 g sc bi mo pk, tW5 g sc bi mo pk, tW6 g sc bi mo pk, tW7 g sc bi mo pk]

/-- Lane `l`'s updated weights. -/
abbrev laneW (d : Fin 192) : EReal :=
  wNew (gradAt g l) (sc (ix2 (0 : Fin 1) l)) (bi (ix2 (0 : Fin 1) l)) (mo (ix2 (0 : Fin 1) l)) (wordAt pk l) d

/-- Every nibble's weights are the row's. -/
theorem tW_apply (m : Fin 8) (w : Fin 24) : tW g sc bi mo pk m (ix2 w l) = laneW g sc bi mo pk l ⟨8 * w.val + m.val, by omega⟩ := by
  fin_cases m
  · exact tW0_apply g sc bi mo pk l w
  · exact tW1_apply g sc bi mo pk l w
  · exact tW2_apply g sc bi mo pk l w
  · exact tW3_apply g sc bi mo pk l w
  · exact tW4_apply g sc bi mo pk l w
  · exact tW5_apply g sc bi mo pk l w
  · exact tW6_apply g sc bi mo pk l w
  · exact tW7_apply g sc bi mo pk l w

/-- What holds of every nibble of every word holds of every weight. -/
theorem forall_weight (P : Fin 192 → Prop) :
    (∀ w : Fin 24, ((((((P ⟨8 * w.val + 0, by omega⟩ ∧ P ⟨8 * w.val + 1, by omega⟩) ∧ P ⟨8 * w.val + 2, by omega⟩) ∧ P ⟨8 * w.val + 3, by omega⟩)
      ∧ P ⟨8 * w.val + 4, by omega⟩) ∧ P ⟨8 * w.val + 5, by omega⟩) ∧ P ⟨8 * w.val + 6, by omega⟩) ∧ P ⟨8 * w.val + 7, by omega⟩) ↔ ∀ d, P d := by
  refine ⟨fun h d => ?_, fun h w => by simp only [h, and_self]⟩
  obtain ⟨⟨⟨⟨⟨⟨⟨h0, h1⟩, h2⟩, h3⟩, h4⟩, h5⟩, h6⟩, h7⟩ := h ⟨d.val / 8, by omega⟩
  have e8 : ∀ m : ℕ, (hm : d.val % 8 = m) → (⟨8 * (d.val / 8) + m, by omega⟩ : Fin 192) = d := fun m hm =>
    Fin.ext (by show 8 * (d.val / 8) + m = d.val; omega)
  rcases (show d.val % 8 = 0 ∨ d.val % 8 = 1 ∨ d.val % 8 = 2 ∨ d.val % 8 = 3 ∨ d.val % 8 = 4 ∨ d.val % 8 = 5 ∨ d.val % 8 = 6 ∨ d.val % 8 = 7 by omega) with
    hh | hh | hh | hh | hh | hh | hh | hh
  · rw [e8 0 hh] at h0; exact h0
  · rw [e8 1 hh] at h1; exact h1
  · rw [e8 2 hh] at h2; exact h2
  · rw [e8 3 hh] at h3; exact h3
  · rw [e8 4 hh] at h4; exact h4
  · rw [e8 5 hh] at h5; exact h5
  · rw [e8 6 hh] at h6; exact h6
  · rw [e8 7 hh] at h7; exact h7

/-- The tile's new biases are the rows' least weights. -/
theorem tBias_apply : tBias g sc bi mo pk (ix2 (0 : Fin 1) l) = rMin (gradAt g l) (sc (ix2 (0 : Fin 1) l)) (bi (ix2 (0 : Fin 1) l)) (mo (ix2 (0 : Fin 1) l)) (wordAt pk l) := by
  have e : tBias g sc bi mo pk (ix2 (0 : Fin 1) l) = Finset.univ.fold min kTop (fun x : Fin 24 => (min (min (min (min (min (min (min (tW g sc bi mo pk 0 (ix2 x l)) (tW g sc bi mo pk 1 (ix2 x l))) (tW g sc bi mo pk 2 (ix2 x l))) (tW g sc bi mo pk 3 (ix2 x l))) (tW g sc bi mo pk 4 (ix2 x l))) (tW g sc bi mo pk 5 (ix2 x l))) (tW g sc bi mo pk 6 (ix2 x l))) (tW g sc bi mo pk 7 (ix2 x l)))) := by
    unfold tBias k0_pay27
    pointwise []
    rfl
  rw [e]
  refine eq_of_forall_le_iff fun c => ?_
  unfold rMin
  rw [Finset.le_fold_min, Finset.le_fold_min]
  refine and_congr_right fun _ => ?_
  simp only [le_min_iff, tW_apply, Finset.mem_univ, true_implies]
  exact forall_weight fun d => c ≤ laneW g sc bi mo pk l d

/-- The greatest of the tile's weights, lane by lane. -/
theorem max_apply : Finset.univ.fold max kBot (fun x : Fin 24 => (max (max (max (max (max (max (max (tW g sc bi mo pk 0 (ix2 x l)) (tW g sc bi mo pk 1 (ix2 x l))) (tW g sc bi mo pk 2 (ix2 x l))) (tW g sc bi mo pk 3 (ix2 x l))) (tW g sc bi mo pk 4 (ix2 x l))) (tW g sc bi mo pk 5 (ix2 x l))) (tW g sc bi mo pk 6 (ix2 x l))) (tW g sc bi mo pk 7 (ix2 x l)))) = rMax (gradAt g l) (sc (ix2 (0 : Fin 1) l)) (bi (ix2 (0 : Fin 1) l)) (mo (ix2 (0 : Fin 1) l)) (wordAt pk l) := by
  refine eq_of_forall_ge_iff fun c => ?_
  unfold rMax
  rw [Finset.fold_max_le, Finset.fold_max_le]
  refine and_congr_right fun _ => ?_
  simp only [max_le_iff, tW_apply, Finset.mem_univ, true_implies]
  exact forall_weight fun d => laneW g sc bi mo pk l d ≤ c

/-- The tile's new scales are the rows'. -/
theorem tScale_apply : tScale g sc bi mo pk (ix2 (0 : Fin 1) l) = scale (gradAt g l) (sc (ix2 (0 : Fin 1) l)) (bi (ix2 (0 : Fin 1) l)) (mo (ix2 (0 : Fin 1) l)) (wordAt pk l) := by
  have e : tScale g sc bi mo pk (ix2 (0 : Fin 1) l)
      = if Finset.univ.fold max kBot (fun x : Fin 24 => (max (max (max (max (max (max (max (tW g sc bi mo pk 0 (ix2 x l)) (tW g sc bi mo pk 1 (ix2 x l))) (tW g sc bi mo pk 2 (ix2 x l))) (tW g sc bi mo pk 3 (ix2 x l))) (tW g sc bi mo pk 4 (ix2 x l))) (tW g sc bi mo pk 5 (ix2 x l))) (tW g sc bi mo pk 6 (ix2 x l))) (tW g sc bi mo pk 7 (ix2 x l)))) = tBias g sc bi mo pk (ix2 (0 : Fin 1) l) then 1
        else Ideal.div (Finset.univ.fold max kBot (fun x : Fin 24 => (max (max (max (max (max (max (max (tW g sc bi mo pk 0 (ix2 x l)) (tW g sc bi mo pk 1 (ix2 x l))) (tW g sc bi mo pk 2 (ix2 x l))) (tW g sc bi mo pk 3 (ix2 x l))) (tW g sc bi mo pk 4 (ix2 x l))) (tW g sc bi mo pk 5 (ix2 x l))) (tW g sc bi mo pk 6 (ix2 x l))) (tW g sc bi mo pk 7 (ix2 x l)))) - tBias g sc bi mo pk (ix2 (0 : Fin 1) l)) kMax := by
    unfold tScale k0_pay28
    pointwise []
    rfl
  rw [e, max_apply, tBias_apply]
  rfl

/-- The reciprocals are the rows' scales'. -/
theorem tInv_apply : tInv g sc bi mo pk (ix2 (0 : Fin 1) l) = Ideal.div 1 (scale (gradAt g l) (sc (ix2 (0 : Fin 1) l)) (bi (ix2 (0 : Fin 1) l)) (mo (ix2 (0 : Fin 1) l)) (wordAt pk l)) := by
  have e : tInv g sc bi mo pk (ix2 (0 : Fin 1) l) = Ideal.div 1 (tScale g sc bi mo pk (ix2 (0 : Fin 1) l)) := by
    unfold tInv k0_pay29
    pointwise []
    rfl
  rw [e, tScale_apply]

/-- A code as the body forms it: the weight less the bias, times the reciprocal, rounded and clipped. -/
def rawCode (m : Fin 8) (w : Fin 24) : BitVec 32 :=
  Ideal.fptosi 32 (min kMax (max 0 (Ideal.liftRound Ideal.roundHalfEven
    ((tW g sc bi mo pk m (ix2 w l) - tBias g sc bi mo pk (ix2 (0 : Fin 1) l)) * tInv g sc bi mo pk (ix2 (0 : Fin 1) l)))))

/-- It is the row's code. -/
theorem rawCode_eq (m : Fin 8) (w : Fin 24) : rawCode g sc bi mo pk l m w = code (gradAt g l) (sc (ix2 (0 : Fin 1) l)) (bi (ix2 (0 : Fin 1) l)) (mo (ix2 (0 : Fin 1) l)) (wordAt pk l) ⟨8 * w.val + m.val, by omega⟩ := by
  unfold rawCode code
  rw [tW_apply, tBias_apply, tInv_apply, mul_recip (scale_ne _ _ _ _ _)]

/-- The tile's bytes are its words of eight codes read as bytes. -/
theorem tCodes_raw (r : Fin 96) : tCodes g sc bi mo pk (ix2 r l)
    = (packed fun m => rawCode g sc bi mo pk l m ⟨r.val / 4, by omega⟩).extractLsb' (8 * (r.val % 4)) 8 := by
  unfold tCodes k0_pay34
  refine (bytes_apply (R := 24) (n := 128) _ _ r l).trans ?_
  congr 1
  unfold k0_pay31 k0_pay32 k0_pay33 tQ0 k0_pay30
  pointwise []
  simp only [shli_lt _ _ _ (show (0#32 : BitVec 32).toNat < 32 by decide), shli_lt _ _ _ (show (4#32 : BitVec 32).toNat < 32 by decide),
    shli_lt _ _ _ (show (8#32 : BitVec 32).toNat < 32 by decide), shli_lt _ _ _ (show (12#32 : BitVec 32).toNat < 32 by decide),
    shli_lt _ _ _ (show (16#32 : BitVec 32).toNat < 32 by decide), shli_lt _ _ _ (show (20#32 : BitVec 32).toNat < 32 by decide),
    shli_lt _ _ _ (show (24#32 : BitVec 32).toNat < 32 by decide), shli_lt _ _ _ (show (28#32 : BitVec 32).toNat < 32 by decide)]
  rfl

/-- The tile's bytes are the rows'. -/
theorem tCodes_apply (r : Fin 96) : tCodes g sc bi mo pk (ix2 r l) = byte (gradAt g l) (sc (ix2 (0 : Fin 1) l)) (bi (ix2 (0 : Fin 1) l)) (mo (ix2 (0 : Fin 1) l)) (wordAt pk l) r := by
  have hlt : ∀ m, (rawCode g sc bi mo pk l m ⟨r.val / 4, by omega⟩).toNat < 16 := fun m => clip_lt _
  rw [tCodes_raw]
  refine (packed_byte (fun m => rawCode g sc bi mo pk l m ⟨r.val / 4, by omega⟩) hlt ⟨r.val % 4, by omega⟩).trans ?_
  simp only [rawCode_eq]
  unfold byte
  have e0 : (⟨8 * (r.val / 4) + 2 * (r.val % 4), by omega⟩ : Fin 192) = ⟨2 * r.val, by omega⟩ := Fin.ext (by show 8 * (r.val / 4) + 2 * (r.val % 4) = 2 * r.val; omega)
  have e1 : (⟨8 * (r.val / 4) + (2 * (r.val % 4) + 1), by omega⟩ : Fin 192) = ⟨2 * r.val + 1, by omega⟩ := Fin.ext (by show 8 * (r.val / 4) + (2 * (r.val % 4) + 1) = 2 * r.val + 1; omega)
  rw [e0, e1]

end

end Cert.KernelIdeal.Hand

end
-- ==== Proof.Ideal.Product.lean ====
/- The products the accumulator is made of, read over the extended reals: a gradient row against a tile's occurrence counts. -/
module

public import proofs.«01_k».proof.Proof.RowGrad
public import proofs.«01_k».proof.Proof.Ideal.Tile
public import proofs.«01_k».proof.Proof.Spec
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Cert.RowUpdate
open scoped BigOperators

variable (v1 : FVec Ideal S192x256 .bf16)

/-- A packed block split: the even bags' counts over the odd bags'. -/
def splitV (x : Vec Ideal S128x128 .i32) : FVec Ideal S256x128 .f32 :=
  concatenate S256x128 0 [⟨S128x128, sitofp .f32 (andi x (broadcast S128x128 65535#32))⟩, ⟨S128x128, sitofp .f32 (shrui x (broadcast S128x128 16#32))⟩]
    concatenates_S128x128_S128x128_S256x128_d0

theorem splitV_apply (x : Vec Ideal S128x128 .i32) (β : Fin 256) (l : Fin 128) : splitV x (ix2 β l) = half (fun p => x (ix2 p l)) β := by
  unfold splitV
  pointwise []
  unfold half
  split
  · rfl
  · unfold IntOp.shrui
    rw [if_pos (by decide)]
    rfl

/-- Two tiles' products side by side. -/
def pairProd (a b : Vec Ideal S128x128 .i32) : FVec Ideal S192x256 .f32 :=
  shapeCast S192x256 (matmul dot_S192x256_S256x256_S192x256_1_0_0_1_n_n none v1
    (concatenate S256x256 1 [⟨S256x128, truncf .bf16 (splitV a) bitsLt_bf16_f32⟩, ⟨S256x128, truncf .bf16 (splitV b) bitsLt_bf16_f32⟩]
      concatenates_S256x128_S256x128_S256x256_d1) (constant S192x256 .f32 0x00000000#32)) shapeCasts_S192x256_S192x256

theorem pay2_eq (v0 a b) : k0_pay2 (F := Ideal) v0 a b = pairProd (k0_pay1 v0) a b := rfl
theorem pay5_eq (a b) : k0_pay5 v1 (k0_pay3 a) b (k0_pay4 b) = pairProd v1 a b := rfl
theorem pay6_eq (a b) : k0_pay6 v1 a b = pairProd v1 a b := rfl
theorem pay9_eq (a b) : k0_pay9 v1 (k0_pay7 a) (k0_pay8 a) b = pairProd v1 a b := rfl

theorem pairProd_apply (a b : Vec Ideal S128x128 .i32) (r : Fin 192) (c : Fin 256) :
    pairProd v1 a b (ix2 r c) = ∑ β : Fin 256, v1 (ix2 r β) * (if h : c.val < 128 then half (fun p => a (ix2 p ⟨c.val, h⟩)) β else half (fun p => b (ix2 p ⟨c.val - 128, by omega⟩)) β) := by
  unfold pairProd
  pointwise []
  refine Finset.sum_congr rfl fun β _ => congrArg _ ?_
  split <;> exact splitV_apply _ _ _

theorem pay10_apply (w : Vec Ideal S128x128 .i32) (acc : Vec Ideal S192x128 .f32) (r : Fin 192) (l : Fin 128) : k0_pay10 v1 w acc (ix2 r l) = acc (ix2 r l) := by
  have e : k0_pay10 v1 w acc = shapeCast S192x128 (addf acc (matmul dot_S192x256_S256x128_S192x128_1_0_0_1_n_n none v1
     (truncf .bf16 (subf (splitV w) (extf .f32 (truncf .bf16 (splitV w) bitsLt_bf16_f32) bitsLt_bf16_f32)) bitsLt_bf16_f32) (constant S192x128 .f32 0x00000000#32))) shapeCasts_S192x128_S192x128 := rfl
  rw [e]
  pointwise []
  simp only [splitV_apply, half_sub, mul_zero, Finset.sum_const_zero, add_zero]

theorem pay11_apply (w : Vec Ideal S128x128 .i32) (acc : Vec Ideal S192x128 .f32) (r : Fin 192) (l : Fin 128) : k0_pay11 v1 w acc (ix2 r l) = acc (ix2 r l) + ∑ β : Fin 256, v1 (ix2 r β) * half (fun p => w (ix2 p l)) β := by
  have e : k0_pay11 v1 w acc = shapeCast S192x128 (addf acc (addf (matmul dot_S192x256_S256x128_S192x128_1_0_0_1_n_n none v1
     (truncf .bf16 (splitV w) bitsLt_bf16_f32) (constant S192x128 .f32 0x00000000#32)) (matmul dot_S192x256_S256x128_S192x128_1_0_0_1_n_n none v1
     (truncf .bf16 (subf (splitV w) (extf .f32 (truncf .bf16 (splitV w) bitsLt_bf16_f32) bitsLt_bf16_f32)) bitsLt_bf16_f32) (constant S192x128 .f32 0x00000000#32)))) shapeCasts_S192x128_S192x128 := rfl
  rw [e]
  pointwise []
  simp only [splitV_apply, half_sub, mul_zero, Finset.sum_const_zero, add_zero]

/-! ## The loop -/

section Loop

variable (c : Dev nD) (i : grid0.Coords) (arg3 : Memref sig .tc .vmem S1024x128 .i32) (arg13 : Memref sig .tc .vmem S192x1024 .f32) (arg14 : Memref sig .tc .vmem S128x128 .i32)
  (f1 : Buf (Elt Ideal) (arg3.view.loc (c : Thread nD τ))) (xt0 : TbBuf0 (F := Ideal) c tbM0_0) (fh0 : HbBuf0 (F := Ideal) c hbM0_0)

/-- Storing a tile's columns changes that tile alone. -/
theorem accOf_writes (G : Buf (Elt Ideal) (arg13.view.loc (c : Thread nD τ))) (o : Fin 2 → ℕ) (k : ℕ) (ho : o = ![0, 128 * k])
    (inb : ∀ a, o a + S192x128.size a ≤ S192x1024.size a) (w : FVec Ideal S192x128 .f32) (k' : Fin 8) :
    accOf (arg13.view.read (Elt Ideal) (arg13.view.writes (Elt Ideal) G [⟨Rect.unit (s := S192x1024) o S192x128.size inb, w⟩])) k'
      = if k'.val = k then w else accOf (arg13.view.read (Elt Ideal) G) k' := by
  unfold accOf
  rw [View.read_writes_cons_put arg13.view G inb w [] ho, View.writes_nil]
  split
  · rename_i h
    subst h
    exact VecWindow.window_put_same _ _ _ _ _
  · rename_i h
    refine VecWindow.window_put_of_disjoint _ _ _ _ _ _ _ 1 ?_
    show 128 * k'.val + 128 ≤ 128 * k ∨ 128 * k + 128 ≤ 128 * k'.val
    omega

/-- A tile's word of the table is above one. -/
def High (k : Fin k0_t1_loop.trips) : Prop :=
  Scalar.cmpi .ne (Scalar.extui (Scalar.cmpi .sgt (lvl c i xt0 k) 1#32)) 0#32 = 1#1

instance (k : Fin k0_t1_loop.trips) : Decidable (High c i xt0 k) := by unfold High; infer_instance

/-- The first half of a trip leaves the accumulator's values as they were: what it adds is a product with zeros. -/
theorem trip1_acc (k : Fin k0_t1_loop.trips) (G : Buf (Elt Ideal) (arg13.view.loc (c : Thread nD τ))) (k' : Fin 8) (r : Fin 192) (l : Fin 128) :
    accOf (arg13.view.read (Elt Ideal) (trip1 c i arg3 arg13 v1 f1 xt0 k G)) k' (ix2 r l) = accOf (arg13.view.read (Elt Ideal) G) k' (ix2 r l) := by
  unfold trip1
  split
  · rw [accOf_writes c arg13 G _ k.val (k0_off3_eq k)]
    split
    · rename_i h
      rw [pay10_apply, View.readAt_unit arg13.view G (k0_off3_inb k) ((k0_off3_eq k).trans (by rw [h])) (cols_inb192 k')]
      rfl
    · rfl
  · rfl

/-- The second half adds the product with the extra counts to the trip's tile, where its word is above one. -/
theorem trip2_acc (k : Fin k0_t1_loop.trips) (G : Buf (Elt Ideal) (arg13.view.loc (c : Thread nD τ))) (k' : Fin 8) (r : Fin 192) (l : Fin 128) :
    accOf (arg13.view.read (Elt Ideal) (trip2 c i arg3 arg13 arg14 v1 f1 xt0 fh0 k G)) k' (ix2 r l)
      = accOf (arg13.view.read (Elt Ideal) G) k' (ix2 r l)
        + if k'.val = k.val ∧ High c i xt0 k then ∑ β : Fin 256, v1 (ix2 r β) * half (fun p => extraLd c arg14 fh0 (ix2 p l)) β else 0 := by
  unfold trip2
  split
  · rename_i hc
    have hH : High c i xt0 k := hc
    rw [accOf_writes c arg13 _ _ k.val (k0_off4_eq k)]
    by_cases h : k'.val = k.val
    · rw [if_pos h, if_pos ⟨h, hH⟩, pay11_apply,
        View.readAt_unit arg13.view _ (k0_off4_inb k) ((k0_off4_eq k).trans (by rw [h])) (cols_inb192 k')]
      exact congrArg (· + _) (trip1_acc v1 c i arg3 arg13 f1 xt0 k G k' r l)
    · rw [if_neg h, if_neg (fun hh => h hh.1), add_zero]
      exact trip1_acc v1 c i arg3 arg13 f1 xt0 k G k' r l
  · rename_i hc
    have hH : ¬ High c i xt0 k := hc
    rw [if_neg (fun hh => hH hh.2), add_zero]
    exact trip1_acc v1 c i arg3 arg13 f1 xt0 k G k' r l

theorem trips_eq : k0_t1_loop.trips = 8 := by decide

/-- The accumulator before trip `n`: the tiles below `n` have their extra products added. -/
theorem gB_acc (G : Buf (Elt Ideal) (arg13.view.loc (c : Thread nD τ))) (n : ℕ) (hn : n ≤ 8) (k' : Fin 8) (r : Fin 192) (l : Fin 128) :
    accOf (arg13.view.read (Elt Ideal) (gB c i arg3 arg13 arg14 v1 f1 xt0 fh0 G n)) k' (ix2 r l)
      = accOf (arg13.view.read (Elt Ideal) G) k' (ix2 r l)
        + if k'.val < n ∧ High c i xt0 (k'.cast trips_eq.symm) then ∑ β : Fin 256, v1 (ix2 r β) * half (fun p => extraLd c arg14 fh0 (ix2 p l)) β else 0 := by
  induction n with
  | zero => rw [if_neg (fun h => absurd h.1 (Nat.not_lt_zero _)), add_zero]; rfl
  | succ n ih =>
    have hlt : n < k0_t1_loop.trips := by rw [trips_eq]; omega
    rw [gB, dif_pos hlt, trip2_acc, ih (by omega)]
    by_cases h : k'.val = n
    · have e : (⟨n, hlt⟩ : Fin k0_t1_loop.trips) = k'.cast trips_eq.symm := Fin.ext h.symm
      rw [if_neg (fun hh => absurd hh.1 (by omega)), add_zero, e]
      congr 1
      refine if_congr ?_ rfl rfl
      exact and_congr_left fun _ => ⟨fun _ => by omega, fun _ => rfl⟩
    · rw [if_neg (c := k'.val = _ ∧ _) (fun hh => h hh.1), add_zero]
      congr 1
      refine if_congr ?_ rfl rfl
      exact and_congr_left fun _ => ⟨fun _ => by omega, fun _ => by omega⟩

end Loop

end Cert.KernelIdeal.Hand

end
-- ==== Proof.Ideal.Block.lean ====
/- What a grid point leaves in the four outputs' staging buffers, over the extended reals: the row update of the block's
   eight tiles of rows. -/
module

public import proofs.«01_k».proof.Proof.Ideal.Frame
public import proofs.«01_k».proof.Proof.Ideal.TileValue
public import proofs.«01_k».proof.Proof.Ideal.Product

@[expose] public section

set_option maxRecDepth 16384

noncomputable section

namespace Cert.KernelIdeal.Hand

open Cert.KernelIdeal.Gen
open Idealize.ShloMosaic Idealize.ShloMosaic.TcCoe Idealize.ShloMosaic.Tactic

open Cert.RowUpdate
open scoped BigOperators

/-! ## What the body reads -/

theorem rowOf_apply (x : Vec Ideal S8x128 .f32) (k : Fin 8) (l : Fin 128) : rowOf x k (ix2 (0 : Fin 1) l) = x (ix2 k l) := by
  refine congrArg x (funext fun a => Fin.ext ?_)
  match a with
  | 0 => show k.val + 1 * 0 = k.val; omega
  | 1 => show 0 + 1 * l.val = l.val; omega

theorem wordsOf_apply (x : Vec Ideal S24x1024 .i32) (k : Fin 8) (w : Fin 24) (l : Fin 128) :
    wordsOf x k (ix2 w l) = x (ix2 w ⟨128 * k.val + l.val, by omega⟩) := by
  refine congrArg x (funext fun a => Fin.ext ?_)
  match a with
  | 0 => show 0 + 1 * w.val = w.val; omega
  | 1 => show 128 * k.val + 1 * l.val = 128 * k.val + l.val; omega

theorem accOf_apply (x : Vec Ideal S192x1024 .f32) (k : Fin 8) (r : Fin 192) (l : Fin 128) :
    accOf x k (ix2 r l) = x (ix2 r ⟨128 * k.val + l.val, by omega⟩) := by
  refine congrArg x (funext fun a => Fin.ext ?_)
  match a with
  | 0 => show 0 + 1 * r.val = r.val; omega
  | 1 => show 128 * k.val + 1 * l.val = 128 * k.val + l.val; omega

section Block

variable (c : Dev nD) (i : grid0.Coords) (arg2 : Memref sig .tc .vmem S192x256 .bf16) (harg2 : arg2.IsWhole) (arg3 : Memref sig .tc .vmem S1024x128 .i32) (harg3 : arg3.IsWhole) (arg5 : Memref sig .tc .vmem S24x1024 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S96x1024 .i8) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S192x1024 .f32) (harg13 : arg13.IsWhole) (arg14 : Memref sig .tc .vmem S128x128 .i32) (harg14 : arg14.IsWhole)
    (x0 : Vec Ideal S192x256 .bf16) (x1 : Vec Ideal S1024x128 .i32) (x2 : Vec Ideal S24x1024 .i32) (x3 : Vec Ideal S8x128 .f32) (x4 : Vec Ideal S8x128 .f32) (x5 : Vec Ideal S8x128 .f32) (xt0 : TbBuf0 (F := Ideal) c tbM0_0) (fh0 : HbBuf0 (F := Ideal) c hbM0_0)

/-- The body's gradient is its block's, -/
theorem grad_eq : k0_pay1 (gradLd arg2 harg2 x0) = x0 := by
  have e : gradLd arg2 harg2 x0 = x0 := (View.readAt_full arg2.view _ _).trans (harg2.read_unread x0)
  rw [e]
  funext y
  obtain ⟨a, b, rfl⟩ : ∃ a b, y = ix2 a b := ⟨y 0, y 1, by funext q; match q with | 0 => rfl | 1 => rfl⟩
  pointwise [k0_pay1]

/-- and its counts the block's, tile by tile. -/
theorem cnt_apply (o : ℕ) (inb : ∀ a, (![o, 0] : Fin 2 → ℕ) a + S128x128.size a ≤ S1024x128.size a) (p : Fin 128) (l : Fin 128) (q : Fin 1024) (hq : q.val = o + p.val) :
    cntLd arg3 harg3 x1 o inb (ix2 p l) = x1 (ix2 q l) := by
  have e : cntLd arg3 harg3 x1 o inb = VecWindow.window x1 ![o, 0] S128x128.size inb := by
    rw [← harg3.read_unread x1, harg3.read_unread x1]
    exact (View.readAt_unit arg3.view _ inb rfl inb).trans (by rw [harg3.read_unread])
  rw [e]
  refine congrArg x1 (funext fun a => Fin.ext ?_)
  match a with
  | 0 => show o + 1 * p.val = q.val; omega
  | 1 => show 0 + 1 * l.val = l.val; omega

/-- The accumulator's columns when the loop is entered: the gradient against the columns' tiles' counts. -/
def entryCol (y : S192x1024.Idx) : EReal :=
  ∑ β : Fin 256, x0 (ix2 (y 0) β) * half (fun p => x1 (ix2 ⟨128 * ((y 1).val / 128) + p.val, by have h : (y 1).val < 1024 := (y 1).isLt; omega⟩ (⟨(y 1).val % 128, Nat.mod_lt _ (by norm_num)⟩ : Fin 128))) β

/-- One of the four products stored before the loop. -/
theorem pairProd_entry (q : ℕ) (hq : q < 4) (inb : ∀ a, (![0, 256 * q] : Fin 2 → ℕ) a + S192x256.size a ≤ S192x1024.size a)
    (inba : ∀ a, (![256 * q, 0] : Fin 2 → ℕ) a + S128x128.size a ≤ S1024x128.size a) (inbb : ∀ a, (![256 * q + 128, 0] : Fin 2 → ℕ) a + S128x128.size a ≤ S1024x128.size a)
    (x : (Rect.unit (s := S192x1024) ![0, 256 * q] S192x256.size inb).shape.Idx) :
    pairProd (k0_pay1 (gradLd arg2 harg2 x0)) (cntLd arg3 harg3 x1 (256 * q) inba) (cntLd arg3 harg3 x1 (256 * q + 128) inbb) x
      = entryCol x0 x1 ((Rect.unit (s := S192x1024) ![0, 256 * q] S192x256.size inb).emb x) := by
  obtain ⟨r, cc, rfl⟩ : ∃ (r : Fin 192) (cc : Fin 256), x = ix2 r cc := ⟨x 0, x 1, by funext q; match q with | 0 => rfl | 1 => rfl⟩
  refine (pairProd_apply _ _ _ r cc).trans ?_
  unfold entryCol
  have hy0 : ((Rect.unit (s := S192x1024) ![0, 256 * q] S192x256.size inb).emb (ix2 r cc)) 0 = r := Fin.ext (by show 0 + 1 * r.val = r.val; omega)
  have hy1 : (((Rect.unit (s := S192x1024) ![0, 256 * q] S192x256.size inb).emb (ix2 r cc)) 1).val = 256 * q + cc.val := by show 256 * q + 1 * cc.val = _; omega
  rw [grad_eq]
  refine Finset.sum_congr rfl fun β _ => ?_
  rw [hy0]
  congr 1
  split
  · rename_i h
    congr 1; funext p
    refine (cnt_apply arg3 harg3 x1 _ inba p _ ⟨256 * q + p.val, by omega⟩ rfl).trans (congrArg x1 ?_)
    congr 1
    · refine Fin.ext ?_; show 256 * q + p.val = 128 * (_ / 128) + p.val; rw [hy1]; omega
    · refine Fin.ext ?_; show cc.val = _ % 128; rw [hy1]; omega
  · rename_i h
    congr 1; funext p
    refine (cnt_apply arg3 harg3 x1 _ inbb p _ ⟨256 * q + 128 + p.val, by omega⟩ rfl).trans (congrArg x1 ?_)
    congr 1
    · refine Fin.ext ?_; show 256 * q + 128 + p.val = 128 * (_ / 128) + p.val; rw [hy1]; omega
    · refine Fin.ext ?_; show cc.val - 128 = _ % 128; rw [hy1]; omega

/-- The accumulator when the loop is entered. -/
theorem accEntry_apply (y : S192x1024.Idx) : arg13.view.read (Elt Ideal) (accEntry c arg2 harg2 arg3 harg3 arg13 x0 x1) y = entryCol x0 x1 y := by
  unfold accEntry
  refine View.read_writes_apply_of_pieces (Val := Elt Ideal) arg13.view _ (entryCol x0 x1) _ ?_ y ?_
  swap
  · exact View.cover_of_tiledL (s := S192x1024) _ S192x256.size (by sl_kernel_rfl) y
  intro p hp x
  simp only [List.mem_cons, List.not_mem_nil, or_false] at hp
  rcases hp with rfl | rfl | rfl | rfl
  · exact pairProd_entry arg2 harg2 arg3 harg3 x0 x1 3 (by omega) inb_S192x1024_S192x256_0_768 inb_S1024x128_S128x128_768_0 inb_S1024x128_S128x128_896_0 x
  · exact pairProd_entry arg2 harg2 arg3 harg3 x0 x1 2 (by omega) inb_S192x1024_S192x256_0_512 inb_S1024x128_S128x128_512_0 inb_S1024x128_S128x128_640_0 x
  · exact pairProd_entry arg2 harg2 arg3 harg3 x0 x1 1 (by omega) inb_S192x1024_S192x256_0_256 inb_S1024x128_S128x128_256_0 inb_S1024x128_S128x128_384_0 x
  · exact pairProd_entry arg2 harg2 arg3 harg3 x0 x1 0 (by omega) inb_S192x1024_S192x256_0_0 inb_S1024x128_S128x128_0_0 inb_S1024x128_S128x128_128_0 x

/-- The packed extra counts. -/
abbrev extraW : Vec Ideal S128x128 .i32 := View.read (Elt Ideal) (Memref.whole main_arg3).view fh0

theorem extraLd_eq : extraLd c arg14 fh0 = extraW c fh0 := by
  unfold extraLd
  exact View.readCov_full (Val := Elt Ideal) arg14.view inb_S128x128_S128x128_0_0 (off' := fun _ => 0) (fun _ => by simp) (extraW c fh0) []

/-- The gradient of the row at tile `k`, lane `l` of the block, in the order of its weights. -/
def rowG (k : Fin 8) (l : Fin 128) (d : Fin 192) : EReal :=
  (∑ β : Fin 256, x0 (ix2 (slot d) β) * half (fun p => x1 (ix2 ⟨128 * k.val + p.val, by omega⟩ l)) β)
    + if High c i xt0 (k.cast trips_eq.symm) then ∑ β : Fin 256, x0 (ix2 (slot d) β) * half (fun p => extraW c fh0 (ix2 p l)) β else 0

/-- The accumulator when the loop is left. -/
theorem accEnd_apply (k : Fin 8) (l : Fin 128) :
    gradAt (accOf (accEnd c i arg2 harg2 arg3 harg3 arg13 arg14 x0 x1 xt0 fh0) k) l = rowG c i x0 x1 xt0 fh0 k l := by
  funext d
  unfold gradAt accEnd rowG
  rw [gB_acc _ c i arg3 arg13 arg14 _ xt0 fh0 _ _ (le_of_eq trips_eq), grad_eq, extraLd_eq, accOf_apply, accEntry_apply]
  congr 1
  · unfold entryCol
    refine Finset.sum_congr rfl fun β _ => ?_
    congr 2
    funext p
    refine congrArg x1 ?_
    congr 1
    · refine Fin.ext ?_; show 128 * ((128 * k.val + l.val) / 128) + p.val = 128 * k.val + p.val; omega
    · refine Fin.ext ?_; show (128 * k.val + l.val) % 128 = l.val; omega
  · refine if_congr ?_ rfl rfl
    exact ⟨fun h => h.2, fun h => ⟨by rw [trips_eq]; exact k.isLt, h⟩⟩

/-! ## What the point leaves -/

/-- The row's words of codes. -/
def rowW (k : Fin 8) (l : Fin 128) (w : Fin 24) : BitVec 32 := x2 (ix2 w ⟨128 * k.val + l.val, by omega⟩)

theorem wordAt_eq (k : Fin 8) (l : Fin 128) : wordAt (wordsOf (arg5.view.read (Elt Ideal) (harg5.unread x2)) k) l = rowW x2 k l := by
  funext w
  unfold wordAt rowW
  rw [harg5.read_unread, wordsOf_apply]

/-- The momenta a point leaves are its rows'. -/
theorem block9 {κ : Kind} {sp : Space} (v : View sig κ sp S8x128 .f32) (f : v.ty.Contents (Elt Ideal)) (y : S8x128.Idx) :
    v.read (Elt Ideal) (v.writes (Elt Ideal) f (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.2.2.1) y = mom (rowG c i x0 x1 xt0 fh0 (y 0) (y 1)) (x5 (ix2 (y 0) (y 1))) := by
  refine View.read_writes_apply_of_pieces (Val := Elt Ideal) v f (fun y : S8x128.Idx => mom (rowG c i x0 x1 xt0 fh0 (y 0) (y 1)) (x5 (ix2 (y 0) (y 1)))) _ ?_ y (cover0_9 c i arg2 harg2 arg3 harg3 arg5 harg5 arg6 harg6 arg7 harg7 arg8 harg8 arg9 harg9 arg10 harg10 arg11 harg11 arg12 harg12 arg13 harg13 arg14 harg14 x0 x1 x2 x3 x4 x5 xt0 fh0 y)
  rw [pieces9]
  intro p hp x
  obtain ⟨k, -, rfl⟩ := List.mem_map.mp hp
  obtain ⟨l, rfl⟩ : ∃ l : Fin 128, x = ix2 (0 : Fin 1) l := ⟨x 1, by
    funext q
    match q with
    | 0 => exact Fin.ext (by have h : (x 0).val < 1 := (x 0).isLt; show (x 0).val = 0; omega)
    | 1 => rfl⟩
  have hy0 : ((Rect.unit (s := S8x128) ![k.val, 0] S1x128.size (row_inb k)).emb (ix2 (0 : Fin 1) l)) 0 = k := Fin.ext (by show k.val + 1 * 0 = k.val; omega)
  have hy1 : ((Rect.unit (s := S8x128) ![k.val, 0] S1x128.size (row_inb k)).emb (ix2 (0 : Fin 1) l)) 1 = l := Fin.ext (by show 0 + 1 * l.val = l.val; omega)
  simp only [hy0, hy1]
  refine (tMom_apply _ _ _).trans ?_
  rw [accEnd_apply, harg8.read_unread, rowOf_apply]

/-- The scales a point leaves are its rows'. -/
theorem block7 {κ : Kind} {sp : Space} (v : View sig κ sp S8x128 .f32) (f : v.ty.Contents (Elt Ideal)) (y : S8x128.Idx) :
    v.read (Elt Ideal) (v.writes (Elt Ideal) f (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.1) y = scale (rowG c i x0 x1 xt0 fh0 (y 0) (y 1)) (x3 (ix2 (y 0) (y 1))) (x4 (ix2 (y 0) (y 1))) (x5 (ix2 (y 0) (y 1))) (rowW x2 (y 0) (y 1)) := by
  refine View.read_writes_apply_of_pieces (Val := Elt Ideal) v f (fun y : S8x128.Idx => scale (rowG c i x0 x1 xt0 fh0 (y 0) (y 1)) (x3 (ix2 (y 0) (y 1))) (x4 (ix2 (y 0) (y 1))) (x5 (ix2 (y 0) (y 1))) (rowW x2 (y 0) (y 1))) _ ?_ y (cover0_7 c i arg2 harg2 arg3 harg3 arg5 harg5 arg6 harg6 arg7 harg7 arg8 harg8 arg9 harg9 arg10 harg10 arg11 harg11 arg12 harg12 arg13 harg13 arg14 harg14 x0 x1 x2 x3 x4 x5 xt0 fh0 y)
  rw [pieces7]
  intro p hp x
  obtain ⟨k, -, rfl⟩ := List.mem_map.mp hp
  obtain ⟨l, rfl⟩ : ∃ l : Fin 128, x = ix2 (0 : Fin 1) l := ⟨x 1, by
    funext q
    match q with
    | 0 => exact Fin.ext (by have h : (x 0).val < 1 := (x 0).isLt; show (x 0).val = 0; omega)
    | 1 => rfl⟩
  have hy0 : ((Rect.unit (s := S8x128) ![k.val, 0] S1x128.size (row_inb k)).emb (ix2 (0 : Fin 1) l)) 0 = k := Fin.ext (by show k.val + 1 * 0 = k.val; omega)
  have hy1 : ((Rect.unit (s := S8x128) ![k.val, 0] S1x128.size (row_inb k)).emb (ix2 (0 : Fin 1) l)) 1 = l := Fin.ext (by show 0 + 1 * l.val = l.val; omega)
  simp only [hy0, hy1]
  refine (tScale_apply _ _ _ _ _ _).trans ?_
  rw [accEnd_apply, harg6.read_unread, harg7.read_unread, harg8.read_unread, rowOf_apply, rowOf_apply, rowOf_apply, wordAt_eq]

/-- The biases a point leaves are its rows'. -/
theorem block8 {κ : Kind} {sp : Space} (v : View sig κ sp S8x128 .f32) (f : v.ty.Contents (Elt Ideal)) (y : S8x128.Idx) :
    v.read (Elt Ideal) (v.writes (Elt Ideal) f (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).2.2.1) y = rMin (rowG c i x0 x1 xt0 fh0 (y 0) (y 1)) (x3 (ix2 (y 0) (y 1))) (x4 (ix2 (y 0) (y 1))) (x5 (ix2 (y 0) (y 1))) (rowW x2 (y 0) (y 1)) := by
  refine View.read_writes_apply_of_pieces (Val := Elt Ideal) v f (fun y : S8x128.Idx => rMin (rowG c i x0 x1 xt0 fh0 (y 0) (y 1)) (x3 (ix2 (y 0) (y 1))) (x4 (ix2 (y 0) (y 1))) (x5 (ix2 (y 0) (y 1))) (rowW x2 (y 0) (y 1))) _ ?_ y (cover0_8 c i arg2 harg2 arg3 harg3 arg5 harg5 arg6 harg6 arg7 harg7 arg8 harg8 arg9 harg9 arg10 harg10 arg11 harg11 arg12 harg12 arg13 harg13 arg14 harg14 x0 x1 x2 x3 x4 x5 xt0 fh0 y)
  rw [pieces8]
  intro p hp x
  obtain ⟨k, -, rfl⟩ := List.mem_map.mp hp
  obtain ⟨l, rfl⟩ : ∃ l : Fin 128, x = ix2 (0 : Fin 1) l := ⟨x 1, by
    funext q
    match q with
    | 0 => exact Fin.ext (by have h : (x 0).val < 1 := (x 0).isLt; show (x 0).val = 0; omega)
    | 1 => rfl⟩
  have hy0 : ((Rect.unit (s := S8x128) ![k.val, 0] S1x128.size (row_inb k)).emb (ix2 (0 : Fin 1) l)) 0 = k := Fin.ext (by show k.val + 1 * 0 = k.val; omega)
  have hy1 : ((Rect.unit (s := S8x128) ![k.val, 0] S1x128.size (row_inb k)).emb (ix2 (0 : Fin 1) l)) 1 = l := Fin.ext (by show 0 + 1 * l.val = l.val; omega)
  simp only [hy0, hy1]
  refine (tBias_apply _ _ _ _ _ _).trans ?_
  rw [accEnd_apply, harg6.read_unread, harg7.read_unread, harg8.read_unread, rowOf_apply, rowOf_apply, rowOf_apply, wordAt_eq]

/-- The bytes a point leaves are its rows'. -/
theorem block6 {κ : Kind} {sp : Space} (v : View sig κ sp S96x1024 .i8) (f : v.ty.Contents (Elt Ideal)) (r : Fin 96) (k : Fin 8) (l : Fin 128) :
    v.read (Elt Ideal) (v.writes (Elt Ideal) f (kernelRun0_A c i arg2 harg2 arg3 harg3 arg5 harg5 arg6 harg6 arg7 harg7 arg8 harg8 arg9 harg9 arg10 harg10 arg11 harg11 arg12 harg12 arg13 harg13 arg14 harg14 x0 x1 x2 x3 x4 x5 xt0 fh0).1) (ix2 r ⟨128 * k.val + l.val, by omega⟩)
      = byte (rowG c i x0 x1 xt0 fh0 k l) (x3 (ix2 k l)) (x4 (ix2 k l)) (x5 (ix2 k l)) (rowW x2 k l) r := by
  let Gf : S96x1024.Idx → BitVec 8 := fun y =>
    have h : (y 1).val < 1024 := (y 1).isLt
    byte (rowG c i x0 x1 xt0 fh0 ⟨(y 1).val / 128, by omega⟩ ⟨(y 1).val % 128, by omega⟩) (x3 (ix2 (⟨(y 1).val / 128, by omega⟩ : Fin 8) (⟨(y 1).val % 128, by omega⟩ : Fin 128)))
      (x4 (ix2 (⟨(y 1).val / 128, by omega⟩ : Fin 8) (⟨(y 1).val % 128, by omega⟩ : Fin 128))) (x5 (ix2 (⟨(y 1).val / 128, by omega⟩ : Fin 8) (⟨(y 1).val % 128, by omega⟩ : Fin 128)))
      (rowW x2 ⟨(y 1).val / 128, by omega⟩ ⟨(y 1).val % 128, by omega⟩) (y 0)
  have hG : ∀ (r : Fin 96) (k : Fin 8) (l : Fin 128) (y : S96x1024.Idx), y 0 = r → (y 1).val = 128 * k.val + l.val →
      Gf y = byte (rowG c i x0 x1 xt0 fh0 k l) (x3 (ix2 k l)) (x4 (ix2 k l)) (x5 (ix2 k l)) (rowW x2 k l) r := by
    intro r k l y h0 h1
    have hy : (y 1).val < 1024 := (y 1).isLt
    have hk : (⟨(y 1).val / 128, by omega⟩ : Fin 8) = k := Fin.ext (by show (y 1).val / 128 = k.val; omega)
    have hl : (⟨(y 1).val % 128, by omega⟩ : Fin 128) = l := Fin.ext (by show (y 1).val % 128 = l.val; omega)
    show byte (rowG c i x0 x1 xt0 fh0 ⟨(y 1).val / 128, by omega⟩ ⟨(y 1).val % 128, by omega⟩) (x3 (ix2 (⟨(y 1).val / 128, by omega⟩ : Fin 8) (⟨(y 1).val % 128, by omega⟩ : Fin 128)))
      (x4 (ix2 (⟨(y 1).val / 128, by omega⟩ : Fin 8) (⟨(y 1).val % 128, by omega⟩ : Fin 128))) (x5 (ix2 (⟨(y 1).val / 128, by omega⟩ : Fin 8) (⟨(y 1).val % 128, by omega⟩ : Fin 128)))
      (rowW x2 ⟨(y 1).val / 128, by omega⟩ ⟨(y 1).val % 128, by omega⟩) (y 0) = _
    rw [hk, hl, h0]
  refine (View.read_writes_apply_of_pieces (Val := Elt Ideal) v f Gf _ ?_ _ (cover0_6 c i arg2 harg2 arg3 harg3 arg5 harg5 arg6 harg6 arg7 harg7 arg8 harg8 arg9 harg9 arg10 harg10 arg11 harg11 arg12 harg12 arg13 harg13 arg14 harg14 x0 x1 x2 x3 x4 x5 xt0 fh0 _)).trans (hG r k l _ rfl rfl)
  rw [pieces6]
  intro p hp x
  obtain ⟨k, -, rfl⟩ := List.mem_map.mp hp
  obtain ⟨r, l, rfl⟩ : ∃ (r : Fin 96) (l : Fin 128), x = ix2 r l := ⟨x 0, x 1, by funext q; match q with | 0 => rfl | 1 => rfl⟩
  refine (tCodes_apply _ _ _ _ _ _ _).trans (Eq.trans ?_ (hG r k l _ (Fin.ext (by show 0 + 1 * r.val = r.val; omega)) (by show 128 * k.val + 1 * l.val = _; omega)).symm)
  rw [accEnd_apply, harg6.read_unread, harg7.read_unread, harg8.read_unread, rowOf_apply, rowOf_apply, rowOf_apply, wordAt_eq]

end Block

end Cert.KernelIdeal.Hand

end
-- ==== Proof.Ideal.Entry.lean ====
/- What the call finds: its operands in terms of the program's arguments, and the windows' blocks in terms of the
   operands. -/
module

public import proofs.«01_k».proof.Proof.Ideal.Block
public import Idealize.ShloMosaic.Lib.Claim
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Cert.RowUpdate

variable (m : (ℓ : Loc nD τ sig) → Buf (Elt Ideal) ℓ) (c : Dev nD)

/-! ## The arguments, read as the row update takes them -/

/-- The bags' gradients, -/
def argG (b : Fin 256) (d : Fin 192) : EReal :=
  m ((c : Thread nD τ).loc main_arg1) (ix3 (⟨b.val / 128, by omega⟩ : Fin 2) (⟨b.val % 128, Nat.mod_lt _ (by norm_num)⟩ : Fin 128) d)
/-- row `n`'s packed counts, -/
def argC (n : Fin 20480) (p : Fin 128) : BitVec 32 :=
  m ((c : Thread nD τ).loc main_arg2) (ix2 (⟨n.val / 128 * 128 + p.val, by omega⟩ : Fin 20480) (⟨n.val % 128, Nat.mod_lt _ (by norm_num)⟩ : Fin 128))
/-- its lane's packed extra counts, -/
def argE (n : Fin 20480) (p : Fin 128) : BitVec 32 :=
  m ((c : Thread nD τ).loc main_arg3) (ix2 p (⟨n.val % 128, Nat.mod_lt _ (by norm_num)⟩ : Fin 128))
/-- its tile's word of the table, -/
def argL (n : Fin 20480) : BitVec 32 :=
  m ((c : Thread nD τ).loc main_arg0) (ix1 (⟨n.val / 128 / 5 * 16 + n.val / 128 % 5, by omega⟩ : Fin 512))
/-- its words of codes, -/
def argW (n : Fin 20480) (w : Fin 24) : BitVec 32 := m ((c : Thread nD τ).loc main_arg4) (ix2 w n)
/-- its scale, -/
def argS (n : Fin 20480) : EReal := m ((c : Thread nD τ).loc main_arg5) (ix1 n)
/-- its bias -/
def argB (n : Fin 20480) : EReal := m ((c : Thread nD τ).loc main_arg6) (ix1 n)
/-- and its momentum. -/
def argM (n : Fin 20480) : EReal := m ((c : Thread nD τ).loc main_arg7) (ix1 n)

/-! ## The call's operands -/

theorem ix1_ext {n : ℕ} {a a' : Fin n} (ha : a.val = a'.val) : ix1 a = ix1 a' := by rw [Fin.ext ha]
theorem ix2_ext {n p : ℕ} {a a' : Fin n} {b b' : Fin p} (ha : a.val = a'.val) (hb : b.val = b'.val) : ix2 a b = ix2 a' b' := by
  rw [Fin.ext ha, Fin.ext hb]
theorem ix3_ext {n p q : ℕ} {a a' : Fin n} {b b' : Fin p} {d d' : Fin q} (ha : a.val = a'.val) (hb : b.val = b'.val) (hd : d.val = d'.val) :
    ix3 a b d = ix3 a' b' d' := by
  rw [Fin.ext ha, Fin.ext hb, Fin.ext hd]

/-- The gradients, one row for each weight, the weights in the order the codes are packed in and the bags with the
    even ones first. -/
theorem operand2 (d : Fin 192) (β : Fin 256) : @Eq EReal (V m c main_v2 (ix2 (slot d) β)) (argG m c (bag β) d) := by
  entry_read
  unfold argG slot bag
  pointwise []
  exact congrArg (m ((c : Thread nD τ).loc main_arg1)) (ix3_ext
    (by show β.val % 128 / 64 = (2 * (β.val % 128) + β.val / 128) / 128; omega)
    (by show β.val % 128 % 64 * 2 + β.val / 128 = (2 * (β.val % 128) + β.val / 128) % 128; omega)
    (by show (d.val % 8 * 24 + d.val / 8) % 24 * 8 + (d.val % 8 * 24 + d.val / 8) / 24 = d.val; omega))

/-- The scales, in tiles of rows, -/
theorem operand3 (o : Fin 160) (l : Fin 128) : @Eq EReal (V m c main_v3 (ix2 o l)) (argS m c ⟨128 * o.val + l.val, by omega⟩) := by
  entry_read
  unfold argS
  pointwise []
  exact congrArg (m ((c : Thread nD τ).loc main_arg5)) (ix1_ext (by show o.val * 128 + l.val = 128 * o.val + l.val; omega))

/-- the biases -/
theorem operand4 (o : Fin 160) (l : Fin 128) : @Eq EReal (V m c main_v4 (ix2 o l)) (argB m c ⟨128 * o.val + l.val, by omega⟩) := by
  entry_read
  unfold argB
  pointwise []
  exact congrArg (m ((c : Thread nD τ).loc main_arg6)) (ix1_ext (by show o.val * 128 + l.val = 128 * o.val + l.val; omega))

/-- and the momenta. -/
theorem operand5 (o : Fin 160) (l : Fin 128) : @Eq EReal (V m c main_v5 (ix2 o l)) (argM m c ⟨128 * o.val + l.val, by omega⟩) := by
  entry_read
  unfold argM
  pointwise []
  exact congrArg (m ((c : Thread nD τ).loc main_arg7)) (ix1_ext (by show o.val * 128 + l.val = 128 * o.val + l.val; omega))

/-! ## The windows' blocks -/

variable (hO : Ok m) (t : Fin (cfgM m hO).N)

/-- There are twenty points. -/
theorem point_lt : t.val < 20 := lt_of_lt_of_eq t.isLt N_0

theorem map0 : ∀ t : Fin grid0.N, cc0_transform_0 (grid0.coords t) = ![0, 0] := by decide +kernel
theorem map1 : ∀ t : Fin grid0.N, cc0_transform_1 (grid0.coords t) = ![t.val, 0] := by decide +kernel
theorem map3 : ∀ t : Fin grid0.N, cc0_transform_3 (grid0.coords t) = ![0, t.val] := by decide +kernel
theorem map4 : ∀ t : Fin grid0.N, cc0_transform_4 (grid0.coords t) = ![t.val, 0] := by decide +kernel
theorem map5 : ∀ t : Fin grid0.N, cc0_transform_5 (grid0.coords t) = ![t.val, 0] := by decide +kernel
theorem map6 : ∀ t : Fin grid0.N, cc0_transform_6 (grid0.coords t) = ![t.val, 0] := by decide +kernel

/-- The gradients' block is all of them. -/
theorem iblk0_apply (r : Fin 192) (β : Fin 256) : iblk m hO c 0 t (ix2 r β) = V m c main_v2 (ix2 r β) := by
  unfold iblk
  refine congrArg (V m c main_v2) (funext fun (a : Fin 2) => Fin.ext ?_)
  match a with
  | 0 => show cc0_transform_0 (grid0.coords t) 0 * 192 + 1 * r.val = r.val; rw [map0]; show 0 * 192 + 1 * r.val = r.val; omega
  | 1 => show cc0_transform_0 (grid0.coords t) 1 * 256 + 1 * β.val = β.val; rw [map0]; show 0 * 256 + 1 * β.val = β.val; omega

/-- The counts' block is the point's 1024 rows, -/
theorem iblk1_apply (r : Fin 1024) (l : Fin 128) : iblk m hO c 1 t (ix2 r l)
    = V m c main_arg2 (ix2 (⟨1024 * t.val + r.val, by have := point_lt m hO t; omega⟩ : Fin 20480) l) := by
  unfold iblk
  refine congrArg (V m c main_arg2) (funext fun (a : Fin 2) => Fin.ext ?_)
  match a with
  | 0 => show cc0_transform_1 (grid0.coords t) 0 * 1024 + 1 * r.val = 1024 * t.val + r.val; rw [map1]; show t.val * 1024 + 1 * r.val = _; omega
  | 1 => show cc0_transform_1 (grid0.coords t) 1 * 128 + 1 * l.val = l.val; rw [map1]; show 0 * 128 + 1 * l.val = l.val; omega

/-- the codes' its 1024 columns, -/
theorem iblk2_apply (w : Fin 24) (q : Fin 1024) : iblk m hO c 2 t (ix2 w q)
    = V m c main_arg4 (ix2 w (⟨1024 * t.val + q.val, by have := point_lt m hO t; omega⟩ : Fin 20480)) := by
  unfold iblk
  refine congrArg (V m c main_arg4) (funext fun (a : Fin 2) => Fin.ext ?_)
  match a with
  | 0 => show cc0_transform_3 (grid0.coords t) 0 * 24 + 1 * w.val = w.val; rw [map3]; show 0 * 24 + 1 * w.val = w.val; omega
  | 1 => show cc0_transform_3 (grid0.coords t) 1 * 1024 + 1 * q.val = 1024 * t.val + q.val; rw [map3]; show t.val * 1024 + 1 * q.val = _; omega

/-- the scales' its eight tiles, -/
theorem iblk3_apply (k : Fin 8) (l : Fin 128) : iblk m hO c 3 t (ix2 k l)
    = V m c main_v3 (ix2 (⟨8 * t.val + k.val, by have := point_lt m hO t; omega⟩ : Fin 160) l) := by
  unfold iblk
  refine congrArg (V m c main_v3) (funext fun (a : Fin 2) => Fin.ext ?_)
  match a with
  | 0 => show cc0_transform_4 (grid0.coords t) 0 * 8 + 1 * k.val = 8 * t.val + k.val; rw [map4]; show t.val * 8 + 1 * k.val = _; omega
  | 1 => show cc0_transform_4 (grid0.coords t) 1 * 128 + 1 * l.val = l.val; rw [map4]; show 0 * 128 + 1 * l.val = l.val; omega

/-- the biases' -/
theorem iblk4_apply (k : Fin 8) (l : Fin 128) : iblk m hO c 4 t (ix2 k l)
    = V m c main_v4 (ix2 (⟨8 * t.val + k.val, by have := point_lt m hO t; omega⟩ : Fin 160) l) := by
  unfold iblk
  refine congrArg (V m c main_v4) (funext fun (a : Fin 2) => Fin.ext ?_)
  match a with
  | 0 => show cc0_transform_5 (grid0.coords t) 0 * 8 + 1 * k.val = 8 * t.val + k.val; rw [map5]; show t.val * 8 + 1 * k.val = _; omega
  | 1 => show cc0_transform_5 (grid0.coords t) 1 * 128 + 1 * l.val = l.val; rw [map5]; show 0 * 128 + 1 * l.val = l.val; omega

/-- and the momenta's. -/
theorem iblk5_apply (k : Fin 8) (l : Fin 128) : iblk m hO c 5 t (ix2 k l)
    = V m c main_v5 (ix2 (⟨8 * t.val + k.val, by have := point_lt m hO t; omega⟩ : Fin 160) l) := by
  unfold iblk
  refine congrArg (V m c main_v5) (funext fun (a : Fin 2) => Fin.ext ?_)
  match a with
  | 0 => show cc0_transform_6 (grid0.coords t) 0 * 8 + 1 * k.val = 8 * t.val + k.val; rw [map6]; show t.val * 8 + 1 * k.val = _; omega
  | 1 => show cc0_transform_6 (grid0.coords t) 1 * 128 + 1 * l.val = l.val; rw [map6]; show 0 * 128 + 1 * l.val = l.val; omega

/-! ## The table -/

/-- A trip's word is its tile's. -/
theorem word_at : ∀ (t : Fin grid0.N) (k : Fin 8), k0_off1 (grid0.coords t) (k.cast trips_eq.symm) 0 = (8 * t.val + k.val) / 5 * 16 + (8 * t.val + k.val) % 5 := by
  decide +kernel

theorem lvl_eq (k : Fin 8) (l : Fin 128) : lvl c (grid0.coords t) (tbl m 0) (k.cast trips_eq.symm)
    = argL m c ⟨128 * (8 * t.val + k.val) + l.val, by have := point_lt m hO t; omega⟩ := by
  unfold lvl argL
  have e0 : c = 0 := Subsingleton.elim _ _
  subst e0
  show tbl m 0 _ = _
  unfold tbl
  show V m 0 main_arg0 _ = _
  rw [V_of_not_written m 0 main_arg0 (by decide)]
  refine congrArg (m (((0 : Dev nD) : Thread nD τ).loc main_arg0)) (funext fun (a : Fin 1) => Fin.ext ?_)
  match a with
  | 0 =>
    show k0_off1 (grid0.coords t) (k.cast trips_eq.symm) 0 + 1 * 0 = _
    rw [word_at]
    show _ = (128 * (8 * t.val + k.val) + l.val) / 128 / 5 * 16 + (128 * (8 * t.val + k.val) + l.val) / 128 % 5
    have : (128 * (8 * t.val + k.val) + l.val) / 128 = 8 * t.val + k.val := by omega
    rw [this]
    omega

/-- A tile's extra counts are added where its word is above one. -/
theorem high_iff (k : Fin k0_t1_loop.trips) (i : grid0.Coords) (xt0 : TbBuf0 (F := Ideal) c tbM0_0) : High c i xt0 k ↔ (1#32).slt (lvl c i xt0 k) = true := by
  unfold High Scalar.cmpi Scalar.extui
  cases h : (1#32).slt (lvl c i xt0 k) <;> simp [IntOp.cmpi, h]

end Cert.KernelIdeal.Hand

end
-- ==== Proof.Ideal.Arrays.lean ====
/- What the call leaves in its four result arrays, over the extended reals: every row's update. -/
module

public import proofs.«01_k».proof.Proof.Ideal.Entry
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Cert.RowUpdate
open scoped BigOperators
open Idealize.ShloMosaic.Pipeline (Dat)
open Idealize.SL.Sem

variable (m : (ℓ : Loc nD τ sig) → Buf (Elt Ideal) ℓ) (ρ : Dev nD → PrngReg) (c : Dev nD)

/-! ## The rows -/

/-- Row `n`'s gradient. -/
def gradOf (n : Fin 20480) (d : Fin 192) : EReal := rowGrad (argG m c) (argC m c n) (argE m c n) (argL m c n) d
/-- The row's new momentum, -/
def rowMom (n : Fin 20480) : EReal := mom (gradOf m c n) (argM m c n)
/-- its new scale, -/
def rowScale (n : Fin 20480) : EReal := scale (gradOf m c n) (argS m c n) (argB m c n) (argM m c n) (argW m c n)
/-- its new bias -/
def rowBias (n : Fin 20480) : EReal := rMin (gradOf m c n) (argS m c n) (argB m c n) (argM m c n) (argW m c n)
/-- and its packed codes. -/
def rowByte (n : Fin 20480) (b : Fin 96) : BitVec 8 := byte (gradOf m c n) (argS m c n) (argB m c n) (argM m c n) (argW m c n) b

/-! ## A point's rows -/

section Point

variable (hO : Ok m) (t : Fin (cfgM m hO).N)

/-- Row `l` of tile `k` of point `t`. -/
def rowAt (k : Fin 8) (l : Fin 128) : Fin 20480 := ⟨128 * (8 * t.val + k.val) + l.val, by have := point_lt m hO t; omega⟩

theorem rowAt_div (k : Fin 8) (l : Fin 128) : (rowAt m hO t k l).val / 128 = 8 * t.val + k.val := by
  show (128 * (8 * t.val + k.val) + l.val) / 128 = _; omega
theorem rowAt_mod (k : Fin 8) (l : Fin 128) : (rowAt m hO t k l).val % 128 = l.val := by
  show (128 * (8 * t.val + k.val) + l.val) % 128 = _; omega

/-- The counts of a point's tile are its rows'. -/
theorem counts_point (k : Fin 8) (l : Fin 128) (p : Fin 128) :
    iblk m hO c 1 t (ix2 ⟨128 * k.val + p.val, by omega⟩ l) = argC m c (rowAt m hO t k l) p := by
  rw [iblk1_apply, V_of_not_written m c main_arg2 (by decide)]
  unfold argC
  exact congrArg (m ((c : Thread nD τ).loc main_arg2)) (ix2_ext
    (by show 1024 * t.val + (128 * k.val + p.val) = (rowAt m hO t k l).val / 128 * 128 + p.val; rw [rowAt_div]; omega)
    (by show l.val = (rowAt m hO t k l).val % 128; rw [rowAt_mod]))

/-- The extra counts of a lane are its rows'. -/
theorem extra_point (k : Fin 8) (l : Fin 128) (p : Fin 128) :
    extraW c (V m c main_arg3) (ix2 p l) = argE m c (rowAt m hO t k l) p := by
  show V m c main_arg3 (ix2 p l) = _
  rw [V_of_not_written m c main_arg3 (by decide)]
  unfold argE
  exact congrArg (m ((c : Thread nD τ).loc main_arg3)) (ix2_ext rfl (by show l.val = (rowAt m hO t k l).val % 128; rw [rowAt_mod]))

/-- The gradient a point forms is the row's. -/
theorem grad_point (k : Fin 8) (l : Fin 128) :
    rowG c (grid0.coords t) (iblk m hO c 0 t) (iblk m hO c 1 t) (tbl m 0) (V m c main_arg3) k l = gradOf m c (rowAt m hO t k l) := by
  funext d
  unfold rowG gradOf
  rw [rowGrad_eq]
  have hw : lvl c (grid0.coords t) (tbl m 0) (k.cast trips_eq.symm) = argL m c (rowAt m hO t k l) := lvl_eq m c hO t k l
  have h0 : ∀ β, @Eq EReal (iblk m hO c 0 t (ix2 (slot d) β)) (argG m c (bag β) d) := fun β => (iblk0_apply m c hO t _ _).trans (operand2 m c d β)
  have h1 : (fun p : Fin 128 => iblk m hO c 1 t (ix2 ⟨128 * k.val + p.val, by omega⟩ l)) = argC m c (rowAt m hO t k l) := funext (counts_point m c hO t k l)
  have h2 : (fun p : Fin 128 => extraW c (V m c main_arg3) (ix2 p l)) = argE m c (rowAt m hO t k l) := funext (extra_point m c hO t k l)
  refine congrArg₂ (· + ·) (Finset.sum_congr rfl fun β _ => ?_) ?_
  · exact congrArg₂ (· * ·) (h0 β) (congrArg (fun w => half w β) h1)
  · refine (@if_congr EReal _ _ (_) (_) _ _ _ _ ((high_iff c _ _ _).trans (by rw [hw])) (Finset.sum_congr rfl fun β _ => ?_) rfl)
    exact congrArg₂ (· * ·) (h0 β) (congrArg (fun w => half w β) h2)

theorem scale_point (k : Fin 8) (l : Fin 128) : @Eq EReal (iblk m hO c 3 t (ix2 k l)) (argS m c (rowAt m hO t k l)) :=
  (iblk3_apply m c hO t k l).trans (operand3 m c _ l)
theorem bias_point (k : Fin 8) (l : Fin 128) : @Eq EReal (iblk m hO c 4 t (ix2 k l)) (argB m c (rowAt m hO t k l)) :=
  (iblk4_apply m c hO t k l).trans (operand4 m c _ l)
theorem mom_point (k : Fin 8) (l : Fin 128) : @Eq EReal (iblk m hO c 5 t (ix2 k l)) (argM m c (rowAt m hO t k l)) :=
  (iblk5_apply m c hO t k l).trans (operand5 m c _ l)

/-- The words of codes of a point's tile are its rows'. -/
theorem words_point (k : Fin 8) (l : Fin 128) : rowW (iblk m hO c 2 t) k l = argW m c (rowAt m hO t k l) := by
  funext w
  unfold rowW argW
  refine (iblk2_apply m c hO t _ _).trans ?_
  rw [V_of_not_written m c main_arg4 (by decide)]
  exact congrArg (m ((c : Thread nD τ).loc main_arg4)) (ix2_ext rfl
    (by show 1024 * t.val + (128 * k.val + l.val) = 128 * (8 * t.val + k.val) + l.val; omega))

/-- What a point leaves in the momenta's buffer, -/
theorem out9_apply (k : Fin 8) (l : Fin 128) : @Eq EReal (out0_9 m hO c t (ix2 k l)) (rowMom m c (rowAt m hO t k l)) := by
  unfold out0_9
  refine (block9 _ _ _ _ _ _ _ _ _ _ _ _ _ _ _ _ _ _ _ _ _ _ _ _ _ _ _ _ _ _ _ _ _ _ _ _ (ix2 k l)).trans ?_
  show mom (rowG c (grid0.coords t) (iblk m hO c 0 t) (iblk m hO c 1 t) (tbl m 0) (V m c main_arg3) k l) (iblk m hO c 5 t (ix2 k l)) = _
  rw [grad_point, mom_point]
  rfl
/-- the scales' -/
theorem out7_apply (k : Fin 8) (l : Fin 128) : @Eq EReal (out0_7 m hO c t (ix2 k l)) (rowScale m c (rowAt m hO t k l)) := by
  unfold out0_7
  refine (block7 _ _ _ _ _ _ _ _ _ _ _ _ _ _ _ _ _ _ _ _ _ _ _ _ _ _ _ _ _ _ _ _ _ _ _ _ (ix2 k l)).trans ?_
  show scale (rowG c (grid0.coords t) (iblk m hO c 0 t) (iblk m hO c 1 t) (tbl m 0) (V m c main_arg3) k l) (iblk m hO c 3 t (ix2 k l)) (iblk m hO c 4 t (ix2 k l)) (iblk m hO c 5 t (ix2 k l)) (rowW (iblk m hO c 2 t) k l) = _
  rw [grad_point, scale_point, bias_point, mom_point, words_point]
  rfl
/-- and the biases'. -/
theorem out8_apply (k : Fin 8) (l : Fin 128) : @Eq EReal (out0_8 m hO c t (ix2 k l)) (rowBias m c (rowAt m hO t k l)) := by
  unfold out0_8
  refine (block8 _ _ _ _ _ _ _ _ _ _ _ _ _ _ _ _ _ _ _ _ _ _ _ _ _ _ _ _ _ _ _ _ _ _ _ _ (ix2 k l)).trans ?_
  show rMin (rowG c (grid0.coords t) (iblk m hO c 0 t) (iblk m hO c 1 t) (tbl m 0) (V m c main_arg3) k l) (iblk m hO c 3 t (ix2 k l)) (iblk m hO c 4 t (ix2 k l)) (iblk m hO c 5 t (ix2 k l)) (rowW (iblk m hO c 2 t) k l) = _
  rw [grad_point, scale_point, bias_point, mom_point, words_point]
  rfl
/-- What a point leaves in the codes' buffer. -/
theorem out6_apply (r : Fin 96) (k : Fin 8) (l : Fin 128) : @Eq (BitVec 8) (out0_6 m hO c t (ix2 r ⟨128 * k.val + l.val, by omega⟩)) (rowByte m c (rowAt m hO t k l) r) := by
  unfold out0_6
  refine (block6 _ _ _ _ _ _ _ _ _ _ _ _ _ _ _ _ _ _ _ _ _ _ _ _ _ _ _ _ _ _ _ _ _ _ _ _ r k l).trans ?_
  rw [grad_point, scale_point, bias_point, mom_point, words_point]
  rfl

end Point

end Cert.KernelIdeal.Hand

end
-- ==== Proof.Ideal.Result.lean ====
/- The call's run, over the extended reals: it ends with every row's update in its result arrays. -/
module

public import proofs.«01_k».proof.Proof.Ideal.Arrays

@[expose] public section

set_option maxRecDepth 16384

noncomputable section

namespace Cert.KernelIdeal.Hand

open Cert.KernelIdeal.Gen
open Idealize.ShloMosaic Idealize.ShloMosaic.TcCoe Idealize.ShloMosaic.Tactic
open Cert.RowUpdate
open Idealize.ShloMosaic.Pipeline (Dat)
open Idealize.SL.Sem

variable (m : (ℓ : Loc nD τ sig) → Buf (Elt Ideal) ℓ) (ρ : Dev nD → PrngReg) (c : Dev nD)

/-! ## The result arrays -/

/-- The codes: row `n`'s bytes in column `n`. -/
def arr6 : Buf (Elt Ideal) ((c : Thread nD τ).loc main_v6_0) := fun i : S96x20480.Idx => rowByte m c (i 1) (i 0)

/-- A row's index, by its tile and lane. -/
def rowIx (i : S160x128.Idx) : Fin 20480 :=
  ⟨128 * (i 0).val + (i 1).val, by have h0 : (i 0).val < 160 := (i 0).isLt; have h1 : (i 1).val < 128 := (i 1).isLt; omega⟩

/-- The scales, -/
def arr7 : Buf (Elt Ideal) ((c : Thread nD τ).loc main_v6_1) := fun i : S160x128.Idx => rowScale m c (rowIx i)
/-- the biases -/
def arr8 : Buf (Elt Ideal) ((c : Thread nD τ).loc main_v6_2) := fun i : S160x128.Idx => rowBias m c (rowIx i)
/-- and the momenta, tile by tile. -/
def arr9 : Buf (Elt Ideal) ((c : Thread nD τ).loc main_v6_3) := fun i : S160x128.Idx => rowMom m c (rowIx i)

/-! ## What is written back -/

section Point

variable (hO : Ok m)

theorem map7 : ∀ t : Fin grid0.N, cc0_transform_7 (grid0.coords t) = ![0, t.val] := by decide +kernel
theorem map8 : ∀ t : Fin grid0.N, cc0_transform_8 (grid0.coords t) = ![t.val, 0] := by decide +kernel
theorem map9 : ∀ t : Fin grid0.N, cc0_transform_9 (grid0.coords t) = ![t.val, 0] := by decide +kernel
theorem map10 : ∀ t : Fin grid0.N, cc0_transform_10 (grid0.coords t) = ![t.val, 0] := by decide +kernel

/-- What a point writes back of the codes is its block of the whole array, -/
theorem flushed6 (t : Fin (cfgM m hO).N) : (dats m hO 0 c).flushed 6 t = (((cfgM m hO).win 6).blk t).view.read (Elt Ideal) (arr6 m c) := by
  show ((cfgM m hO).win 6).cut (grid0.coords t) ((dats m hO 0 c).after 6 t) = _
  rw [after0_6]
  refine funext fun (y : S96x1024.Idx) => ?_
  have h1 : (y 1).val < 1024 := (y 1).isLt
  obtain ⟨k, l, hkl⟩ : ∃ (k : Fin 8) (l : Fin 128), (y 1).val = 128 * k.val + l.val :=
    ⟨⟨(y 1).val / 128, by omega⟩, ⟨(y 1).val % 128, by omega⟩, by show (y 1).val = 128 * ((y 1).val / 128) + (y 1).val % 128; omega⟩
  have hy : y = ix2 (y 0) (⟨128 * k.val + l.val, by omega⟩ : Fin 1024) := by
    funext q
    match q with
    | 0 => rfl
    | 1 => exact Fin.ext hkl
  rw [hy]
  refine (out6_apply m c hO t (y 0) k l).trans ?_
  show _ = rowByte m c _ _
  refine congrArg₂ (rowByte m c) (Fin.ext ?_) (Fin.ext ?_)
  · show 128 * (8 * t.val + k.val) + l.val = cc0_transform_7 (grid0.coords t) 1 * 1024 + 1 * (128 * k.val + l.val)
    rw [map7]; show _ = t.val * 1024 + 1 * (128 * k.val + l.val); omega
  · show (y 0).val = cc0_transform_7 (grid0.coords t) 0 * 96 + 1 * (y 0).val
    rw [map7]; show _ = 0 * 96 + 1 * (y 0).val; omega

/-- and so of the scales, -/
theorem flushed7 (t : Fin (cfgM m hO).N) : (dats m hO 0 c).flushed 7 t = (((cfgM m hO).win 7).blk t).view.read (Elt Ideal) (arr7 m c) := by
  show ((cfgM m hO).win 7).cut (grid0.coords t) ((dats m hO 0 c).after 7 t) = _
  rw [after0_7]
  refine funext fun (y : S8x128.Idx) => ?_
  have hy : y = ix2 (y 0) (y 1) := by
    funext q
    match q with
    | 0 => rfl
    | 1 => rfl
  rw [hy]
  refine (out7_apply m c hO t (y 0) (y 1)).trans ?_
  show _ = rowScale m c _
  refine congrArg (rowScale m c) (Fin.ext ?_)
  show 128 * (8 * t.val + (y 0).val) + (y 1).val
    = 128 * (cc0_transform_8 (grid0.coords t) 0 * 8 + 1 * (y 0).val) + (cc0_transform_8 (grid0.coords t) 1 * 128 + 1 * (y 1).val)
  rw [map8]
  show _ = 128 * (t.val * 8 + 1 * (y 0).val) + (0 * 128 + 1 * (y 1).val)
  omega

/-- the biases -/
theorem flushed8 (t : Fin (cfgM m hO).N) : (dats m hO 0 c).flushed 8 t = (((cfgM m hO).win 8).blk t).view.read (Elt Ideal) (arr8 m c) := by
  show ((cfgM m hO).win 8).cut (grid0.coords t) ((dats m hO 0 c).after 8 t) = _
  rw [after0_8]
  refine funext fun (y : S8x128.Idx) => ?_
  have hy : y = ix2 (y 0) (y 1) := by
    funext q
    match q with
    | 0 => rfl
    | 1 => rfl
  rw [hy]
  refine (out8_apply m c hO t (y 0) (y 1)).trans ?_
  show _ = rowBias m c _
  refine congrArg (rowBias m c) (Fin.ext ?_)
  show 128 * (8 * t.val + (y 0).val) + (y 1).val
    = 128 * (cc0_transform_9 (grid0.coords t) 0 * 8 + 1 * (y 0).val) + (cc0_transform_9 (grid0.coords t) 1 * 128 + 1 * (y 1).val)
  rw [map9]
  show _ = 128 * (t.val * 8 + 1 * (y 0).val) + (0 * 128 + 1 * (y 1).val)
  omega

/-- and the momenta. -/
theorem flushed9 (t : Fin (cfgM m hO).N) : (dats m hO 0 c).flushed 9 t = (((cfgM m hO).win 9).blk t).view.read (Elt Ideal) (arr9 m c) := by
  show ((cfgM m hO).win 9).cut (grid0.coords t) ((dats m hO 0 c).after 9 t) = _
  rw [after0_9]
  refine funext fun (y : S8x128.Idx) => ?_
  have hy : y = ix2 (y 0) (y 1) := by
    funext q
    match q with
    | 0 => rfl
    | 1 => rfl
  rw [hy]
  refine (out9_apply m c hO t (y 0) (y 1)).trans ?_
  show _ = rowMom m c _
  refine congrArg (rowMom m c) (Fin.ext ?_)
  show 128 * (8 * t.val + (y 0).val) + (y 1).val
    = 128 * (cc0_transform_10 (grid0.coords t) 0 * 8 + 1 * (y 0).val) + (cc0_transform_10 (grid0.coords t) 1 * 128 + 1 * (y 1).val)
  rw [map10]
  show _ = 128 * (t.val * 8 + 1 * (y 0).val) + (0 * 128 + 1 * (y 1).val)
  omega

/-! ## The blocks cover the arrays -/

/-- Every point writes window 6's block back. -/
theorem flush6 : ∀ t : Fin (cfgM m hO).N, ((cfgM m hO).win 6).flush t = true :=
  (fun t => (Pipeline.Window.flushOf_reads cc0_transform_7 reads0_6 hreads0_6 0 (by decide) (by decide) (Pipeline.Window.sep_of_coord cc0_transform_7 0 1 (fun _ => rfl) (by decide)) (P := 1) (m := 0) (by decide) rfl t).mpr (Nat.mod_one _) : ∀ t : Fin grid0.N, Pipeline.Window.flushOf grid0 true cc0_transform_7 t = true)

/-- Every point writes window 7's block back. -/
theorem flush7 : ∀ t : Fin (cfgM m hO).N, ((cfgM m hO).win 7).flush t = true :=
  (fun t => (Pipeline.Window.flushOf_reads cc0_transform_8 reads0_7 hreads0_7 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)

/-- Every point writes window 8's block back. -/
theorem flush8 : ∀ t : Fin (cfgM m hO).N, ((cfgM m hO).win 8).flush t = true :=
  (fun t => (Pipeline.Window.flushOf_reads cc0_transform_9 reads0_8 hreads0_8 0 (by decide) (by decide) (Pipeline.Window.sep_of_coord cc0_transform_9 0 0 (fun _ => rfl) (by decide)) (P := 1) (m := 0) (by decide) rfl t).mpr (Nat.mod_one _) : ∀ t : Fin grid0.N, Pipeline.Window.flushOf grid0 true cc0_transform_9 t = true)

/-- Every point writes window 9's block back. -/
theorem flush9 : ∀ t : Fin (cfgM m hO).N, ((cfgM m hO).win 9).flush t = true :=
  (fun t => (Pipeline.Window.flushOf_reads cc0_transform_10 reads0_9 hreads0_9 0 (by decide) (by decide) (Pipeline.Window.sep_of_coord cc0_transform_10 0 0 (fun _ => rfl) (by decide)) (P := 1) (m := 0) (by decide) rfl t).mpr (Nat.mod_one _) : ∀ t : Fin grid0.N, Pipeline.Window.flushOf grid0 true cc0_transform_10 t = true)

/-- The codes' blocks cover their array, a block every 1024 columns, -/
theorem cover6 (i : S96x20480.Idx) : ∃ t : Fin (cfgM m hO).N, ((cfgM m hO).win 6).flush t = true ∧ i ∈ (((cfgM m hO).win 6).blk t).view.set := by
  have h0 : (i 0).val < 96 := (i 0).isLt
  have h1 : (i 1).val < 20480 := (i 1).isLt
  have hN : (cfgM m hO).N = 20 := N_0
  obtain ⟨t, ht⟩ : ∃ t : Fin (cfgM m hO).N, t.val = (i 1).val / 1024 := ⟨⟨(i 1).val / 1024, by omega⟩, rfl⟩
  refine ⟨t, flush6 m hO t, (Finset.ext_iff.mp (View.set_slice_whole main_v6_0 (((cfgM m hO).win 6).rect t)) i).mpr (Rect.mem_set_unit.mpr fun a => ?_)⟩
  match a with
  | ⟨0, _⟩ => show cc0_transform_7 (grid0.coords t) 0 * 96 ≤ (i 0).val ∧ (i 0).val < cc0_transform_7 (grid0.coords t) 0 * 96 + 96
              rw [map7]; show 0 * 96 ≤ (i 0).val ∧ (i 0).val < 0 * 96 + 96; omega
  | ⟨1, _⟩ => show cc0_transform_7 (grid0.coords t) 1 * 1024 ≤ (i 1).val ∧ (i 1).val < cc0_transform_7 (grid0.coords t) 1 * 1024 + 1024
              rw [map7]; show t.val * 1024 ≤ (i 1).val ∧ (i 1).val < t.val * 1024 + 1024; omega

/-- and the others' theirs, a block every eight tiles. -/
theorem cover7 (i : S160x128.Idx) : ∃ t : Fin (cfgM m hO).N, ((cfgM m hO).win 7).flush t = true ∧ i ∈ (((cfgM m hO).win 7).blk t).view.set := by
  have h0 : (i 0).val < 160 := (i 0).isLt
  have h1 : (i 1).val < 128 := (i 1).isLt
  have hN : (cfgM m hO).N = 20 := N_0
  obtain ⟨t, ht⟩ : ∃ t : Fin (cfgM m hO).N, t.val = (i 0).val / 8 := ⟨⟨(i 0).val / 8, by omega⟩, rfl⟩
  refine ⟨t, flush7 m hO t, (Finset.ext_iff.mp (View.set_slice_whole main_v6_1 (((cfgM m hO).win 7).rect t)) i).mpr (Rect.mem_set_unit.mpr fun a => ?_)⟩
  match a with
  | ⟨0, _⟩ => show cc0_transform_8 (grid0.coords t) 0 * 8 ≤ (i 0).val ∧ (i 0).val < cc0_transform_8 (grid0.coords t) 0 * 8 + 8
              rw [map8]; show t.val * 8 ≤ (i 0).val ∧ (i 0).val < t.val * 8 + 8; omega
  | ⟨1, _⟩ => show cc0_transform_8 (grid0.coords t) 1 * 128 ≤ (i 1).val ∧ (i 1).val < cc0_transform_8 (grid0.coords t) 1 * 128 + 128
              rw [map8]; show 0 * 128 ≤ (i 1).val ∧ (i 1).val < 0 * 128 + 128; omega

/-- So with the biases'. -/
theorem cover8 (i : S160x128.Idx) : ∃ t : Fin (cfgM m hO).N, ((cfgM m hO).win 8).flush t = true ∧ i ∈ (((cfgM m hO).win 8).blk t).view.set := by
  have h0 : (i 0).val < 160 := (i 0).isLt
  have h1 : (i 1).val < 128 := (i 1).isLt
  have hN : (cfgM m hO).N = 20 := N_0
  obtain ⟨t, ht⟩ : ∃ t : Fin (cfgM m hO).N, t.val = (i 0).val / 8 := ⟨⟨(i 0).val / 8, by omega⟩, rfl⟩
  refine ⟨t, flush8 m hO t, (Finset.ext_iff.mp (View.set_slice_whole main_v6_2 (((cfgM m hO).win 8).rect t)) i).mpr (Rect.mem_set_unit.mpr fun a => ?_)⟩
  match a with
  | ⟨0, _⟩ => show cc0_transform_9 (grid0.coords t) 0 * 8 ≤ (i 0).val ∧ (i 0).val < cc0_transform_9 (grid0.coords t) 0 * 8 + 8
              rw [map9]; show t.val * 8 ≤ (i 0).val ∧ (i 0).val < t.val * 8 + 8; omega
  | ⟨1, _⟩ => show cc0_transform_9 (grid0.coords t) 1 * 128 ≤ (i 1).val ∧ (i 1).val < cc0_transform_9 (grid0.coords t) 1 * 128 + 128
              rw [map9]; show 0 * 128 ≤ (i 1).val ∧ (i 1).val < 0 * 128 + 128; omega

/-- So with the momenta's. -/
theorem cover9 (i : S160x128.Idx) : ∃ t : Fin (cfgM m hO).N, ((cfgM m hO).win 9).flush t = true ∧ i ∈ (((cfgM m hO).win 9).blk t).view.set := by
  have h0 : (i 0).val < 160 := (i 0).isLt
  have h1 : (i 1).val < 128 := (i 1).isLt
  have hN : (cfgM m hO).N = 20 := N_0
  obtain ⟨t, ht⟩ : ∃ t : Fin (cfgM m hO).N, t.val = (i 0).val / 8 := ⟨⟨(i 0).val / 8, by omega⟩, rfl⟩
  refine ⟨t, flush9 m hO t, (Finset.ext_iff.mp (View.set_slice_whole main_v6_3 (((cfgM m hO).win 9).rect t)) i).mpr (Rect.mem_set_unit.mpr fun a => ?_)⟩
  match a with
  | ⟨0, _⟩ => show cc0_transform_10 (grid0.coords t) 0 * 8 ≤ (i 0).val ∧ (i 0).val < cc0_transform_10 (grid0.coords t) 0 * 8 + 8
              rw [map10]; show t.val * 8 ≤ (i 0).val ∧ (i 0).val < t.val * 8 + 8; omega
  | ⟨1, _⟩ => show cc0_transform_10 (grid0.coords t) 1 * 128 ≤ (i 1).val ∧ (i 1).val < cc0_transform_10 (grid0.coords t) 1 * 128 + 128
              rw [map10]; show 0 * 128 ≤ (i 1).val ∧ (i 1).val < 0 * 128 + 128; omega

/-! ## The run -/

theorem final6 : (dats m hO 0 c).arrAt 6 (cfgM m hO).N = arr6 m c :=
  (dats m hO 0 c).arrAt_eq_of_cover 6 (arr6 m c) (fun t _ => flushed6 m c hO t) (cover6 m hO)
theorem final7 : (dats m hO 0 c).arrAt 7 (cfgM m hO).N = arr7 m c :=
  (dats m hO 0 c).arrAt_eq_of_cover 7 (arr7 m c) (fun t _ => flushed7 m c hO t) (cover7 m hO)
theorem final8 : (dats m hO 0 c).arrAt 8 (cfgM m hO).N = arr8 m c :=
  (dats m hO 0 c).arrAt_eq_of_cover 8 (arr8 m c) (fun t _ => flushed8 m c hO t) (cover8 m hO)
theorem final9 : (dats m hO 0 c).arrAt 9 (cfgM m hO).N = arr9 m c :=
  (dats m hO 0 c).arrAt_eq_of_cover 9 (arr9 m c) (fun t _ => flushed9 m c hO t) (cover9 m hO)

end Point

/-- The result arrays the call ends with. -/
theorem results : θ_run defs (onTc (τ := τ) (main (F := Ideal))) ⟨m, fun _ => 0, ρ⟩ (fun r => ∀ c : Dev nD,
      r.2.mem ((c : Thread nD τ).loc main_v6_0) = arr6 m c
      ∧ r.2.mem ((c : Thread nD τ).loc main_v6_1) = arr7 m c
      ∧ r.2.mem ((c : Thread nD τ).loc main_v6_2) = arr8 m c
      ∧ r.2.mem ((c : Thread nD τ).loc main_v6_3) = arr9 m c) :=
  (θ_run defs _ _).mono (fun _ h c => ⟨((h c).1 6).trans (final6 m c trivial), ((h c).1 7).trans (final7 m c trivial),
      ((h c).1 8).trans (final8 m c trivial), ((h c).1 9).trans (final9 m c trivial)⟩) (run_main m ρ trivial)

/-- From any memory with zero counters the call ends, with every row's update in its result arrays and the arguments
    unchanged. -/
theorem run : θ_run defs (onTc (τ := τ) (main (F := Ideal))) ⟨m, fun _ => 0, ρ⟩ (fun r => ∀ c : Dev nD,
      (r.2.mem ((c : Thread nD τ).loc main_v6_0) = arr6 m c
      ∧ r.2.mem ((c : Thread nD τ).loc main_v6_1) = arr7 m c
      ∧ r.2.mem ((c : Thread nD τ).loc main_v6_2) = arr8 m c
      ∧ r.2.mem ((c : Thread nD τ).loc main_v6_3) = arr9 m c)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))) :=
  (θ_run defs _ _).mono (fun _ h c => ⟨h.1 c, h.2 c⟩) (θ_run_and (results m ρ) (unchanged m ρ trivial))

end Cert.KernelIdeal.Hand

end
-- ==== Proof.Agree.lean ====
/- The two programs, from memories that agree on the arguments: the arrays the reference ends with are the call's. -/
module

public import proofs.«01_k».proof.Proof.Reference
public import proofs.«01_k».proof.Proof.Ideal.Result

@[expose] public section

set_option maxRecDepth 16384

noncomputable section

namespace Cert.Agree

open Cert.RowUpdate
open Cert.ReferenceIdeal.Value
open Idealize.ShloMosaic Idealize.ShloMosaic.TcCoe

variable (V0 : Valuation Cert.ReferenceIdeal.τ Cert.ReferenceIdeal.sig (Elt Ideal))
  (m : (ℓ : Loc Cert.KernelIdeal.nD Cert.KernelIdeal.τ Cert.KernelIdeal.sig) → Buf (Elt Ideal) ℓ) (c : Dev Cert.KernelIdeal.nD)

/-- The reference's arguments are the kernel's. -/
structure Same : Prop where
  a0 : V0 (Proc.devRef .tc Cert.ReferenceIdeal.main_arg0) = m ((c.tc : Thread Cert.KernelIdeal.nD Cert.KernelIdeal.τ).loc Cert.KernelIdeal.main_arg0)
  a1 : V0 (Proc.devRef .tc Cert.ReferenceIdeal.main_arg1) = m ((c.tc : Thread Cert.KernelIdeal.nD Cert.KernelIdeal.τ).loc Cert.KernelIdeal.main_arg1)
  a2 : V0 (Proc.devRef .tc Cert.ReferenceIdeal.main_arg2) = m ((c.tc : Thread Cert.KernelIdeal.nD Cert.KernelIdeal.τ).loc Cert.KernelIdeal.main_arg2)
  a3 : V0 (Proc.devRef .tc Cert.ReferenceIdeal.main_arg3) = m ((c.tc : Thread Cert.KernelIdeal.nD Cert.KernelIdeal.τ).loc Cert.KernelIdeal.main_arg3)
  a4 : V0 (Proc.devRef .tc Cert.ReferenceIdeal.main_arg4) = m ((c.tc : Thread Cert.KernelIdeal.nD Cert.KernelIdeal.τ).loc Cert.KernelIdeal.main_arg4)
  a5 : V0 (Proc.devRef .tc Cert.ReferenceIdeal.main_arg5) = m ((c.tc : Thread Cert.KernelIdeal.nD Cert.KernelIdeal.τ).loc Cert.KernelIdeal.main_arg5)
  a6 : V0 (Proc.devRef .tc Cert.ReferenceIdeal.main_arg6) = m ((c.tc : Thread Cert.KernelIdeal.nD Cert.KernelIdeal.τ).loc Cert.KernelIdeal.main_arg6)
  a7 : V0 (Proc.devRef .tc Cert.ReferenceIdeal.main_arg7) = m ((c.tc : Thread Cert.KernelIdeal.nD Cert.KernelIdeal.τ).loc Cert.KernelIdeal.main_arg7)

variable {V0 m c} (h : Same V0 m c)
include h

/-- So are what the rows are updated from. -/
theorem words (n : Fin 20480) : Cert.ReferenceIdeal.Hand.argW V0 n = Cert.KernelIdeal.Hand.argW m c n := by
  funext w; exact congrFun h.a4 (ix2 w n)
theorem scales (n : Fin 20480) : Cert.ReferenceIdeal.Hand.argS V0 n = Cert.KernelIdeal.Hand.argS m c n := congrFun h.a5 (ix1 n)
theorem biases (n : Fin 20480) : Cert.ReferenceIdeal.Hand.argB V0 n = Cert.KernelIdeal.Hand.argB m c n := congrFun h.a6 (ix1 n)
theorem momenta (n : Fin 20480) : Cert.ReferenceIdeal.Hand.argM V0 n = Cert.KernelIdeal.Hand.argM m c n := congrFun h.a7 (ix1 n)

/-- And the gradients formed. -/
theorem grads (n : Fin 20480) : Cert.ReferenceIdeal.Hand.rowG V0 n = Cert.KernelIdeal.Hand.gradOf m c n := by
  funext d
  unfold Cert.ReferenceIdeal.Hand.rowG Cert.KernelIdeal.Hand.gradOf
  have e0 : Cert.ReferenceIdeal.Hand.argL V0 n = Cert.KernelIdeal.Hand.argL m c n := congrFun h.a0 _
  have e1 : Cert.ReferenceIdeal.Hand.argG V0 = Cert.KernelIdeal.Hand.argG m c := by
    funext b d; exact congrFun h.a1 _
  have e2 : Cert.ReferenceIdeal.Hand.argC V0 n = Cert.KernelIdeal.Hand.argC m c n := by
    funext p; exact congrFun h.a2 _
  have e3 : Cert.ReferenceIdeal.Hand.argE V0 n = Cert.KernelIdeal.Hand.argE m c n := by
    funext p; exact congrFun h.a3 _
  rw [e0, e1, e2, e3]

/-- The codes agree, -/
theorem codes : Cert.ReferenceIdeal.Hand.codesOf (res_main_v79 V0) (res_main_v86 V0) (res_main_v89 V0) (res_main_v97 V0) = Cert.KernelIdeal.Hand.arr6 m c := by
  refine funext fun (i : Cert.ReferenceIdeal.S96x20480.Idx) => ?_
  obtain ⟨b, n, rfl⟩ : ∃ (b : Fin 96) (n : Fin 20480), i = ix2 b n := ⟨i 0, i 1, by
    funext q
    match q with
    | 0 => rfl
    | 1 => rfl⟩
  refine (Cert.ReferenceIdeal.Hand.codes_apply V0 b n).trans ?_
  rw [grads h, scales h, biases h, momenta h, words h]
  rfl

omit h in
/-- An array of rows laid out in tiles is the kernel's where the rows are. -/
theorem tiles (A : FVec Ideal Cert.ReferenceIdeal.S20480 .f32) (f : Fin 20480 → EReal) (hA : ∀ n, @Eq EReal (A (ix1 n)) (f n)) :
    shapeCast Cert.ReferenceIdeal.S160x128 A Cert.ReferenceIdeal.Gen.shapeCasts_S20480_S160x128
      = fun i : Cert.KernelIdeal.S160x128.Idx => f (Cert.KernelIdeal.Hand.rowIx i) := by
  refine funext fun (i : Cert.ReferenceIdeal.S160x128.Idx) => ?_
  obtain ⟨o, l, rfl⟩ : ∃ (o : Fin 160) (l : Fin 128), i = ix2 o l := ⟨i 0, i 1, by
    funext q
    match q with
    | 0 => rfl
    | 1 => rfl⟩
  refine (Cert.ReferenceIdeal.Hand.tiles_apply A o l).trans ((hA _).trans (congrArg f (Fin.ext ?_)))
  show o.val * 128 + l.val = 128 * o.val + l.val
  omega

/-- the scales, -/
theorem newScales : shapeCast Cert.ReferenceIdeal.S160x128 (res_main_v97 V0) Cert.ReferenceIdeal.Gen.shapeCasts_S20480_S160x128 = Cert.KernelIdeal.Hand.arr7 m c :=
  tiles (res_main_v97 V0) (Cert.KernelIdeal.Hand.rowScale m c) fun n => (Cert.ReferenceIdeal.Hand.v97_apply V0 n).trans (by
    rw [grads h, scales h, biases h, momenta h, words h]; rfl)

/-- the biases -/
theorem newBiases : shapeCast Cert.ReferenceIdeal.S160x128 (res_main_v89 V0) Cert.ReferenceIdeal.Gen.shapeCasts_S20480_S160x128 = Cert.KernelIdeal.Hand.arr8 m c :=
  tiles (res_main_v89 V0) (Cert.KernelIdeal.Hand.rowBias m c) fun n => (Cert.ReferenceIdeal.Hand.v89_apply V0 n).trans (by
    rw [grads h, scales h, biases h, momenta h, words h]; rfl)

/-- and the momenta. -/
theorem newMomenta : shapeCast Cert.ReferenceIdeal.S160x128 (res_main_v67 V0) Cert.ReferenceIdeal.Gen.shapeCasts_S20480_S160x128 = Cert.KernelIdeal.Hand.arr9 m c :=
  tiles (res_main_v67 V0) (Cert.KernelIdeal.Hand.rowMom m c) fun n => (Cert.ReferenceIdeal.Hand.v67_apply V0 n).trans (by
    rw [grads h, momenta h]; rfl)

end Cert.Agree

end
-- ==== Proof.lean ====
module

public import proofs.«01_k».proof.Defs
public import proofs.«01_k».proof.Proof.Gen.ReferenceIdeal.Run
public import proofs.«01_k».proof.Proof.Frame
public import proofs.«01_k».proof.Proof.Ideal.Frame
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- The reference returns, keeps its arguments and leaves no semaphore raised: it is host operations alone. -/
theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- Over the extended reals, from memories that agree on the arguments, the kernel's four result arrays are the
    reference's: both hold every row's update. -/
theorem algebraic : Cert.algebraic_KernelIdeal_ReferenceIdeal := by
  intro m ρ m' ρ' _ hagree
  have hs (c : Dev Cert.KernelIdeal.nD) : Cert.Agree.Same (StableHlo.launchContents m' c) m c :=
    ⟨(hagree c).1, (hagree c).2.1, (hagree c).2.2.1, (hagree c).2.2.2.1, (hagree c).2.2.2.2.1, (hagree c).2.2.2.2.2.1,
      (hagree c).2.2.2.2.2.2.1, (hagree c).2.2.2.2.2.2.2⟩
  refine ⟨fun c => Cert.KernelIdeal.Hand.arr6 m c, fun c => Cert.KernelIdeal.Hand.arr7 m c, fun c => Cert.KernelIdeal.Hand.arr8 m c,
    fun c => Cert.KernelIdeal.Hand.arr9 m c, ?_, ?_⟩
  · exact (θ_run Cert.KernelIdeal.defs _ _).mono
      (fun _ h c => ⟨(h c).1.1, (h c).1.2.1, (h c).1.2.2.1, (h c).1.2.2.2, (h c).2⟩) (Cert.KernelIdeal.Hand.run m ρ)
  · exact (θ_run Cert.ReferenceIdeal.defs _ _).mono
      (fun _ h c => ⟨(h c).1.trans (Cert.Agree.codes (hs c)), (h c).2.1.trans (Cert.Agree.newScales (hs c)),
        (h c).2.2.1.trans (Cert.Agree.newBiases (hs c)), (h c).2.2.2.1.trans (Cert.Agree.newMomenta (hs c)), (h c).2.2.2.2⟩)
      (Cert.ReferenceIdeal.Value.run (F := Ideal) m' ρ')

/-- The certificate's claims, in the order it states them. -/
theorem claim : Cert.Claim := ⟨Cert.Kernel.Gen.facts, Cert.KernelIdeal.Gen.facts, Cert.ReferenceIdeal.Gen.facts,
  fun m ρ _ => Cert.Kernel.Hand.frame m ρ trivial, fun m ρ _ => Cert.KernelIdeal.Hand.frame m ρ trivial,
  frame_reference, trivial, algebraic⟩

end Cert.Proof

end
